-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_groups_named [hPre_groups_named : Cert.Pre_groups_named.Facts] (m : (ℓ : Loc Cert.KernelIdeal.nD Cert.KernelIdeal.τ Cert.KernelIdeal.sig) → Buf (Elt Ideal) ℓ) : Prop :=
  ∀ c : Dev Cert.KernelIdeal.nD,
    (Cert.Pre_groups_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_named [hPre_groups_named : Cert.Pre_groups_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_groups_named [hKernelIdeal : Cert.KernelIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_groups_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_named [hReferenceIdeal : Cert.ReferenceIdeal.Facts] [hPre_groups_named : Cert.Pre_groups_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_groups_named [hKernelIdeal : Cert.KernelIdeal.Facts] [hReferenceIdeal : Cert.ReferenceIdeal.Facts] [hPre_groups_named : Cert.Pre_groups_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_groups_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_named : Cert.Pre_groups_named.Facts),
    quiescent_Kernel (hKernel := hKernel)
    ∧ quiescent_KernelIdeal (hKernelIdeal := hKernelIdeal)
    ∧ quiescent_KernelIdeal_pre_groups_named (hKernelIdeal := hKernelIdeal) (hPre_groups_named := hPre_groups_named)
    ∧ quiescent_ReferenceIdeal (hReferenceIdeal := hReferenceIdeal)
    ∧ quiescent_ReferenceIdeal_pre_groups_named (hReferenceIdeal := hReferenceIdeal) (hPre_groups_named := hPre_groups_named)
    ∧ preserves_Kernel_KernelIdeal
    ∧ algebraic_KernelIdeal_ReferenceIdeal_pre_groups_named (hKernelIdeal := hKernelIdeal) (hReferenceIdeal := hReferenceIdeal) (hPre_groups_named := hPre_groups_named)
-- ==== Pre_groups_named.lean ====
abbrev S2048x1x18944 : Shape := ⟨3, ![2048, 1, 18944]⟩
abbrev S1792x18944 : Shape := ⟨2, ![1792, 18944]⟩
abbrev S28x18944 : Shape := ⟨2, ![28, 18944]⟩
abbrev S14x18944 : Shape := ⟨2, ![14, 18944]⟩
abbrev S3584 : Shape := ⟨1, ![3584]⟩
abbrev S_ : Shape := ⟨0, ![]⟩

class Facts : Prop where
  bcast_S_S3584 : S_.BroadcastsInDim S3584 (![] : Fin 0 → Fin S3584.rank)

variable [Facts]

def fn {F : FTy → Type} [FloatOps F] (main_arg0 : FVec F S2048x1x18944 .bf16) (main_arg1 : IVec S1792x18944 8) (main_arg2 : FVec F S28x18944 .bf16) (main_arg3 : IVec S14x18944 8) (main_arg4 : IVec S3584 32) : IVec S3584 1 :=
  let main_c : IVec S_ 32 := constantI S_ 32 0#32
  let main_v0 : IVec S3584 32 := broadcastInDim S3584 ![] bcast_S_S3584 main_c
  let main_v1 : IVec S3584 1 := cmpi .sge main_arg4 main_v0
  let main_c_0 : IVec S_ 32 := constantI S_ 32 28#32
  let main_v2 : IVec S3584 32 := broadcastInDim S3584 ![] bcast_S_S3584 main_c_0
  let main_v3 : IVec S3584 1 := cmpi .slt main_arg4 main_v2
  let main_v4 : IVec S3584 1 := andi main_v1 main_v3
  main_v4
-- ==== Kernel.lean ====
abbrev S2048x1x18944 : Shape := ⟨3, ![2048, 1, 18944]⟩
abbrev S1792x18944 : Shape := ⟨2, ![1792, 18944]⟩
abbrev S28x18944 : Shape := ⟨2, ![28, 18944]⟩
abbrev S14x18944 : Shape := ⟨2, ![14, 18944]⟩
abbrev S3584 : Shape := ⟨1, ![3584]⟩
abbrev S1x3584 : Shape := ⟨2, ![1, 3584]⟩
abbrev S2048x18944 : Shape := ⟨2, ![2048, 18944]⟩
abbrev S2048x3584 : Shape := ⟨2, ![2048, 3584]⟩
abbrev S1024x512 : Shape := ⟨2, ![1024, 512]⟩
abbrev S1792x512 : Shape := ⟨2, ![1792, 512]⟩
abbrev S28x512 : Shape := ⟨2, ![28, 512]⟩
abbrev S14x512 : Shape := ⟨2, ![14, 512]⟩
abbrev S1024x3584 : Shape := ⟨2, ![1024, 3584]⟩
abbrev S14x1024x256 : Shape := ⟨3, ![14, 1024, 256]⟩
abbrev S4x512 : Shape := ⟨2, ![4, 512]⟩
abbrev S32x512 : Shape := ⟨2, ![32, 512]⟩
abbrev S1x256 : Shape := ⟨2, ![1, 256]⟩
abbrev S32x256 : Shape := ⟨2, ![32, 256]⟩
abbrev S256x512 : Shape := ⟨2, ![256, 512]⟩
abbrev S128x512 : Shape := ⟨2, ![128, 512]⟩
abbrev S1024x256 : Shape := ⟨2, ![1024, 256]⟩
abbrev S1x1024x256 : Shape := ⟨3, ![1, 1024, 256]⟩
abbrev S2048x1x3584 : Shape := ⟨3, ![2048, 1, 3584]⟩

abbrev nBuf : Space → Nat
  | .hbm => 9
  | .vmem => 12
  | .smem => 0
  | _ => 0

abbrev bufTy : (tb : Table) → Fin (tcTables nBuf tb) → BufTy
  | .hbm, ⟨0, _⟩ => ⟨S2048x1x18944, .bf16⟩
  | .hbm, ⟨1, _⟩ => ⟨S1792x18944, .i8⟩
  | .hbm, ⟨2, _⟩ => ⟨S28x18944, .bf16⟩
  | .hbm, ⟨3, _⟩ => ⟨S14x18944, .i8⟩
  | .hbm, ⟨4, _⟩ => ⟨S3584, .i32⟩
  | .hbm, ⟨5, _⟩ => ⟨S1x3584, .i32⟩
  | .hbm, ⟨6, _⟩ => ⟨S2048x18944, .bf16⟩
  | .hbm, ⟨7, _⟩ => ⟨S2048x3584, .bf16⟩
  | .hbm, ⟨8, _⟩ => ⟨S2048x1x3584, .bf16⟩
  | .local _ .vmem, ⟨0, _⟩ => ⟨S1x3584, .i32⟩
  | .local _ .vmem, ⟨1, _⟩ => ⟨S1024x512, .bf16⟩
  | .local _ .vmem, ⟨2, _⟩ => ⟨S1024x512, .bf16⟩
  | .local _ .vmem, ⟨3, _⟩ => ⟨S1792x512, .i8⟩
  | .local _ .vmem, ⟨4, _⟩ => ⟨S1792x512, .i8⟩
  | .local _ .vmem, ⟨5, _⟩ => ⟨S28x512, .bf16⟩
  | .local _ .vmem, ⟨6, _⟩ => ⟨S28x512, .bf16⟩
  | .local _ .vmem, ⟨7, _⟩ => ⟨S14x512, .i8⟩
  | .local _ .vmem, ⟨8, _⟩ => ⟨S14x512, .i8⟩
  | .local _ .vmem, ⟨9, _⟩ => ⟨S1024x3584, .bf16⟩
  | .local _ .vmem, ⟨10, _⟩ => ⟨S1024x3584, .bf16⟩
  | .local _ .vmem, ⟨11, _⟩ => ⟨S14x1024x256, .f32⟩
  | _, _ => ⟨S2048x1x18944, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 37], ![false, false]⟩

@[reducible] def k0_t1_loop : Scf.Loop 32 :=
  let c0_i32 : BitVec 32 := 0#32
  let c14_i32 : BitVec 32 := 14#32
  let v15 : BitVec 32 := Scalar.addi c0_i32 c14_i32
  let c1_i32 : BitVec 32 := 1#32
  ⟨c0_i32, v15, c1_i32⟩
def k0_mult1 (k0_t1 : Fin k0_t1_loop.trips) : BitVec 32 :=
  let c0_i32 : BitVec 32 := 0#32
  let c1_i32 : BitVec 32 := 1#32
  let arg9 : BitVec 32 := Scf.iv c0_i32 c1_i32 k0_t1
  let c256_i32 : BitVec 32 := 256#32
  let v19 : BitVec 32 := Scalar.muli arg9 c256_i32
  v19
def k0_off1 (k0_t1 : Fin k0_t1_loop.trips) : Fin 2 → Nat :=
  let c0_5 : Index := 0#32
  let c0_i32 : BitVec 32 := 0#32
  let c1_i32 : BitVec 32 := 1#32
  let arg9 : BitVec 32 := Scf.iv c0_i32 c1_i32 k0_t1
  let c256_i32 : BitVec 32 := 256#32
  let v19 : BitVec 32 := Scalar.muli arg9 c256_i32
  let v20 : BitVec 32 := v19
  let v21 : Index := Scalar.indexCast v20
  ![0, v21.toNat]
def k0_mult2 (k0_t1 : Fin k0_t1_loop.trips) : BitVec 32 :=
  let c0_i32 : BitVec 32 := 0#32
  let c1_i32 : BitVec 32 := 1#32
  let arg9 : BitVec 32 := Scf.iv c0_i32 c1_i32 k0_t1
  let c128_i32 : BitVec 32 := 128#32
  let v34 : BitVec 32 := Scalar.muli arg9 c128_i32
  v34
def k0_off2 (k0_t1 : Fin k0_t1_loop.trips) : Fin 2 → Nat :=
  let c0_i32 : BitVec 32 := 0#32
  let c1_i32 : BitVec 32 := 1#32
  let arg9 : BitVec 32 := Scf.iv c0_i32 c1_i32 k0_t1
  let c128_i32 : BitVec 32 := 128#32
  let v34 : BitVec 32 := Scalar.muli arg9 c128_i32
  let v35 : BitVec 32 := v34
  let v36 : Index := Scalar.indexCast v35
  let c0_8 : Index := 0#32
  ![v36.toNat, 0]
def k0_off3 (k0_t1 : Fin k0_t1_loop.trips) : Fin 3 → Nat :=
  let c0_i32 : BitVec 32 := 0#32
  let c1_i32 : BitVec 32 := 1#32
  let arg9 : BitVec 32 := Scf.iv c0_i32 c1_i32 k0_t1
  let v57 : Index := Scalar.indexCast arg9
  let c0_15 : Index := 0#32
  let c0_16 : Index := 0#32
  ![v57.toNat, 0, 0]
def k0_cond1 (i : grid0.Coords) : BitVec 1 :=
  let arg1 : BitVec 32 := BitVec.ofNat 32 (i 1).val
  let c36_i32 : BitVec 32 := 36#32
  let v16 : BitVec 1 := Scalar.cmpi .eq arg1 c36_i32
  let v17 : BitVec 32 := Scalar.extui v16
  let c0_i32_4 : BitVec 32 := 0#32
  let v18 : BitVec 1 := Scalar.cmpi .ne v17 c0_i32_4
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1x3584 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1792x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S28x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S14x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x3584 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S2048x1x18944 : Shape := ⟨3, ![2048, 1, 18944]⟩
abbrev S1792x18944 : Shape := ⟨2, ![1792, 18944]⟩
abbrev S28x18944 : Shape := ⟨2, ![28, 18944]⟩
abbrev S14x18944 : Shape := ⟨2, ![14, 18944]⟩
abbrev S3584 : Shape := ⟨1, ![3584]⟩
abbrev S_ : Shape := ⟨0, ![]⟩
abbrev S1792 : Shape := ⟨1, ![1792]⟩
abbrev S1792x1 : Shape := ⟨2, ![1792, 1]⟩
abbrev S2048x1x1792 : Shape := ⟨3, ![2048, 1, 1792]⟩
abbrev S2048x1x1792x1 : Shape := ⟨4, ![2048, 1, 1792, 1]⟩
abbrev S2048x1x1792x2 : Shape := ⟨4, ![2048, 1, 1792, 2]⟩
abbrev S2048x1x3584 : Shape := ⟨3, ![2048, 1, 3584]⟩

abbrev nBuf : Space → Nat
  | .hbm => 72
  | .vmem => 0
  | .smem => 0
  | _ => 0

abbrev bufTy : (tb : Table) → Fin (tcTables nBuf tb) → BufTy
  | .hbm, ⟨0, _⟩ => ⟨S2048x1x18944, .bf16⟩
  | .hbm, ⟨1, _⟩ => ⟨S1792x18944, .i8⟩
  | .hbm, ⟨2, _⟩ => ⟨S28x18944, .bf16⟩
  | .hbm, ⟨3, _⟩ => ⟨S14x18944, .i8⟩
  | .hbm, ⟨4, _⟩ => ⟨S3584, .i32⟩
  | .hbm, ⟨5, _⟩ => ⟨S14x18944, .i32⟩
  | .hbm, ⟨6, _⟩ => ⟨S1792x18944, .i32⟩
  | .hbm, ⟨7, _⟩ => ⟨S_, .i32⟩
  | .hbm, ⟨8, _⟩ => ⟨S14x18944, .i32⟩
  | .hbm, ⟨9, _⟩ => ⟨S14x18944, .i32⟩
  | .hbm, ⟨10, _⟩ => ⟨S_, .i32⟩
  | .hbm, ⟨11, _⟩ => ⟨S14x18944, .i32⟩
  | .hbm, ⟨12, _⟩ => ⟨S14x18944, .i32⟩
  | .hbm, ⟨13, _⟩ => ⟨S28x18944, .i32⟩
  | .hbm, ⟨14, _⟩ => ⟨S28x18944, .bf16⟩
  | .hbm, ⟨15, _⟩ => ⟨S_, .i32⟩
  | .hbm, ⟨16, _⟩ => ⟨S1792x18944, .i32⟩
  | .hbm, ⟨17, _⟩ => ⟨S1792x18944, .i32⟩
  | .hbm, ⟨18, _⟩ => ⟨S1792x18944, .bf16⟩
  | .hbm, ⟨19, _⟩ => ⟨S1792, .i32⟩
  | .hbm, ⟨20, _⟩ => ⟨S_, .i32⟩
  | .hbm, ⟨21, _⟩ => ⟨S1792, .i32⟩
  | .hbm, ⟨22, _⟩ => ⟨S1792, .i1⟩
  | .hbm, ⟨23, _⟩ => ⟨S_, .i32⟩
  | .hbm, ⟨24, _⟩ => ⟨S1792, .i32⟩
  | .hbm, ⟨25, _⟩ => ⟨S1792, .i32⟩
  | .hbm, ⟨26, _⟩ => ⟨S1792, .i32⟩
  | .hbm, ⟨27, _⟩ => ⟨S1792x1, .i32⟩
  | .hbm, ⟨28, _⟩ => ⟨S1792x18944, .bf16⟩
  | .hbm, ⟨29, _⟩ => ⟨S_, .i32⟩
  | .hbm, ⟨30, _⟩ => ⟨S1792, .i32⟩
  | .hbm, ⟨31, _⟩ => ⟨S1792, .i1⟩
  | .hbm, ⟨32, _⟩ => ⟨S_, .i32⟩
  | .hbm, ⟨33, _⟩ => ⟨S1792, .i32⟩
  | .hbm, ⟨34, _⟩ => ⟨S1792, .i32⟩
  | .hbm, ⟨35, _⟩ => ⟨S1792, .i32⟩
  | .hbm, ⟨36, _⟩ => ⟨S1792x1, .i32⟩
  | .hbm, ⟨37, _⟩ => ⟨S1792x18944, .bf16⟩
  | .hbm, ⟨38, _⟩ => ⟨S1792x18944, .bf16⟩
  | .hbm, ⟨39, _⟩ => ⟨S1792x18944, .bf16⟩
  | .hbm, ⟨40, _⟩ => ⟨S2048x1x1792, .f32⟩
  | .hbm, ⟨41, _⟩ => ⟨S_, .i32⟩
  | .hbm, ⟨42, _⟩ => ⟨S1792x18944, .i32⟩
  | .hbm, ⟨43, _⟩ => ⟨S1792x18944, .i32⟩
  | .hbm, ⟨44, _⟩ => ⟨S1792x18944, .bf16⟩
  | .hbm, ⟨45, _⟩ => ⟨S1792, .i32⟩
  | .hbm, ⟨46, _⟩ => ⟨S_, .i32⟩
  | .hbm, ⟨47, _⟩ => ⟨S1792, .i32⟩
  | .hbm, ⟨48, _⟩ => ⟨S1792, .i1⟩
  | .hbm, ⟨49, _⟩ => ⟨S_, .i32⟩
  | .hbm, ⟨50, _⟩ => ⟨S1792, .i32⟩
  | .hbm, ⟨51, _⟩ => ⟨S1792, .i32⟩
  | .hbm, ⟨52, _⟩ => ⟨S1792, .i32⟩
  | .hbm, ⟨53, _⟩ => ⟨S1792x1, .i32⟩
  | .hbm, ⟨54, _⟩ => ⟨S1792x18944, .bf16⟩
  | .hbm, ⟨55, _⟩ => ⟨S_, .i32⟩
  | .hbm, ⟨56, _⟩ => ⟨S1792, .i32⟩
  | .hbm, ⟨57, _⟩ => ⟨S1792, .i1⟩
  | .hbm, ⟨58, _⟩ => ⟨S_, .i32⟩
  | .hbm, ⟨59, _⟩ => ⟨S1792, .i32⟩
  | .hbm, ⟨60, _⟩ => ⟨S1792, .i32⟩
  | .hbm, ⟨61, _⟩ => ⟨S1792, .i32⟩
  | .hbm, ⟨62, _⟩ => ⟨S1792x1, .i32⟩
  | .hbm, ⟨63, _⟩ => ⟨S1792x18944, .bf16⟩
  | .hbm, ⟨64, _⟩ => ⟨S1792x18944, .bf16⟩
  | .hbm, ⟨65, _⟩ => ⟨S1792x18944, .bf16⟩
  | .hbm, ⟨66, _⟩ => ⟨S2048x1x1792, .f32⟩
  | .hbm, ⟨67, _⟩ => ⟨S2048x1x1792x1, .f32⟩
  | .hbm, ⟨68, _⟩ => ⟨S2048x1x1792x1, .f32⟩
  | .hbm, ⟨69, _⟩ => ⟨S2048x1x1792x2, .f32⟩
  | .hbm, ⟨70, _⟩ => ⟨S2048x1x3584, .f32⟩
  | .hbm, ⟨71, _⟩ => ⟨S2048x1x3584, .bf16⟩
  | _, _ => ⟨S2048x1x18944, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_c_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_4 : Ref sig .tc := ⟨.hbm, 29, rfl⟩
abbrev main_v19 : Ref sig .tc := ⟨.hbm, 30, rfl⟩
abbrev main_v20 : Ref sig .tc := ⟨.hbm, 31, rfl⟩
abbrev main_c_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_6 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_7 : Ref sig .tc := ⟨.hbm, 46, rfl⟩
abbrev main_v33 : Ref sig .tc := ⟨.hbm, 47, rfl⟩
abbrev main_v34 : Ref sig .tc := ⟨.hbm, 48, rfl⟩
abbrev main_c_8 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_9 : Ref sig .tc := ⟨.hbm, 55, rfl⟩
abbrev main_v40 : Ref sig .tc := ⟨.hbm, 56, rfl⟩
abbrev main_v41 : Ref sig .tc := ⟨.hbm, 57, rfl⟩
abbrev main_c_10 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]
-- ==== Proof.Kernel.Trip.lean ====
/- One trip of the kernel's loop over the 14 slabs of output columns, in closed form: which slab of the running sums it
   overwrites and with what, and, over all trips together, what the loop leaves. -/
module

public import proofs.«01_k».proof.Proof.Gen.Kernel.Frame
public import proofs.«01_k».proof.Proof.Gen.Kernel.Skeleton
public import proofs.«01_k».proof.Proof.Gen.Kernel.Loops
public import Idealize.ShloMosaic.Lib.WritesUnit

@[expose] public section

set_option maxRecDepth 16384

noncomputable section

namespace Cert.Kernel.Own

open Idealize.ShloMosaic Idealize.ShloMosaic.TcCoe Idealize.ShloMosaic.Tactic
open Idealize.SL Idealize.SL.RA Idealize.SL.BI
open Cert.Kernel.Gen

variable {F : FTy → Type} [FloatOps F]

variable (𝒱 : Variants) (c : Dev nD) (bd : Option 𝒱.V) (i : grid0.Coords)
  (arg2 : Memref sig .tc .vmem S1x3584 .i32) (harg2 : arg2.IsWhole) (arg3 : Memref sig .tc .vmem S1024x512 .bf16) (harg3 : arg3.IsWhole)
  (arg4 : Memref sig .tc .vmem S1792x512 .i8) (harg4 : arg4.IsWhole) (arg5 : Memref sig .tc .vmem S28x512 .bf16) (harg5 : arg5.IsWhole)
  (arg6 : Memref sig .tc .vmem S14x512 .i8) (harg6 : arg6.IsWhole) (arg7 : Memref sig .tc .vmem S1024x3584 .bf16) (harg7 : arg7.IsWhole)
  (arg8 : Memref sig .tc .vmem S14x1024x256 .f32) (harg8 : arg8.IsWhole)
  (arg1 : BitVec 32) (v0 : Vec F S14x512 .i8) (v11 : Vec F S28x512 .bf16)

/-! ## The values -/

section Values

variable (x0 : Vec F S1x3584 .i32) (x1 : Vec F S1024x512 .bf16) (x2 : Vec F S1792x512 .i8)

/-- The product of one trip: the block of activations against the dequantised weights of slab `k`. -/
def slabProd (k : Fin k0_t1_loop.trips) : FVec F S1024x256 .f32 :=
  k0_pay7 (k0_pay2 v0) (k0_pay3 v11)
    (fun j => x0 ((Rect.unit (s := S1x3584) (k0_off1 k) S1x256.size (k0_off1_inb k)).emb j))
    (fun j => x2 ((Rect.unit (s := S1792x512) (k0_off2 k) S128x512.size (k0_off2_inb k)).emb j))
    (fun j => x1 ((Rect.unit (s := S1024x512) ![0, 0] S1024x512.size inb_S1024x512_S1024x512_0_0).emb j))

/-- What trip `k` writes over slab `k`, having found `xs` in the running sums: the product alone in the first block of
    columns, the sum of the two in the others. -/
def slabNew (xs : Vec F S14x1024x256 .f32) (k : Fin k0_t1_loop.trips) : FVec F S1x1024x256 .f32 :=
  k0_pay4 (slabProd v0 v11 x0 x1 x2 k) (Scalar.cmpi .eq arg1 0#32)
    (k0_pay8 (k0_pay2 v0) (k0_pay3 v11)
      (fun j => x0 ((Rect.unit (s := S1x3584) (k0_off1 k) S1x256.size (k0_off1_inb k)).emb j))
      (fun j => x2 ((Rect.unit (s := S1792x512) (k0_off2 k) S128x512.size (k0_off2_inb k)).emb j))
      (fun j => x1 ((Rect.unit (s := S1024x512) ![0, 0] S1024x512.size inb_S1024x512_S1024x512_0_0).emb j))
      (fun j => xs ((Rect.unit (s := S14x1024x256) (k0_off3 k) S1x1024x256.size (k0_off3_inb k)).emb j)))

/-- The loop runs 14 trips. -/
theorem trips_eq : k0_t1_loop.trips = 14 := by decide

/-- The slab of an index of the running sums, as a trip. -/
def slabOf (y : S14x1024x256.Idx) : Fin k0_t1_loop.trips := ⟨(y 0).val, by rw [trips_eq]; exact (y 0).isLt⟩

/-- The place of an index of the running sums within its slab. -/
def inSlab (y : S14x1024x256.Idx) : S1x1024x256.Idx := fun
  | ⟨0, _⟩ => ⟨0, Nat.one_pos⟩
  | ⟨1, _⟩ => ⟨(y 1).val, (y 1).isLt⟩
  | ⟨2, _⟩ => ⟨(y 2).val, (y 2).isLt⟩

/-- The running sums after the loop, from what it found in them. -/
def sumsNew (xs : Vec F S14x1024x256 .f32) : Vec F S14x1024x256 .f32 :=
  fun y => slabNew arg1 v0 v11 x0 x1 x2 xs (slabOf y) (inSlab y)

/-- The running sums before trip `n`: the slabs below `n` are new. -/
def sumsAt (xs : Vec F S14x1024x256 .f32) (n : ℕ) : Vec F S14x1024x256 .f32 :=
  fun y => if (y 0).val < n then sumsNew arg1 v0 v11 x0 x1 x2 xs y else xs y

end Values

/-! ## The loop -/

/-- Where slab `k`'s rectangle places its own index. -/
theorem emb_slab_zero (k : Fin k0_t1_loop.trips) (j : S1x1024x256.Idx) :
    (((Rect.unit (s := S14x1024x256) (k0_off3 k) S1x1024x256.size (k0_off3_inb k)).emb j) 0).val = k.val := by
  show k0_off3 k 0 + 1 * (j 0).val = k.val
  rw [k0_off3_eq]
  have h : (j 0).val < 1 := (j 0).isLt
  show k.val + 1 * (j 0).val = k.val
  omega

variable (X2 : BufTy.Contents (Elt F) arg2.view.ty) (X3 : BufTy.Contents (Elt F) arg3.view.ty) (X4 : BufTy.Contents (Elt F) arg4.view.ty)

/-- One trip writes one piece: slab `k`, at `slabNew` of what the trip finds. -/
theorem tripL_eq (k : Fin k0_t1_loop.trips) (f : BufTy.Contents (Elt F) arg8.view.ty) :
    tripL_k0_t1 (F := F) 𝒱 c bd i arg2 harg2 arg3 harg3 arg4 harg4 arg5 harg5 arg6 harg6 arg7 harg7 arg8 harg8 arg1 v0 v11 X2 X3 X4 k f
      = [⟨Rect.unit (s := S14x1024x256) (k0_off3 k) S1x1024x256.size (k0_off3_inb k),
          slabNew arg1 v0 v11 (arg2.view.read (Elt F) X2) (arg3.view.read (Elt F) X3) (arg4.view.read (Elt F) X4)
            (arg8.view.read (Elt F) f) k⟩] := by
  unfold tripL_k0_t1 trip_k0_t1
  unfold trip_k0_t1.sl.r trip_k0_t1.sl.r_1 trip_k0_t1.sl.v56
  rfl

/-- A trip's new slab depends on the running sums through that slab alone. -/
theorem slabNew_congr (x0 : Vec F S1x3584 .i32) (x1 : Vec F S1024x512 .bf16) (x2 : Vec F S1792x512 .i8)
    (xs ys : Vec F S14x1024x256 .f32) (k : Fin k0_t1_loop.trips) (h : ∀ y, (y 0).val = k.val → xs y = ys y) :
    slabNew arg1 v0 v11 x0 x1 x2 xs k = slabNew arg1 v0 v11 x0 x1 x2 ys k := by
  unfold slabNew
  exact congrArg (fun w => k0_pay4 _ _ (k0_pay8 _ _ _ _ _ w)) (funext fun j => h _ (emb_slab_zero k j))

/-- Before trip `n` the running sums are `sumsAt`. -/
theorem read_pb (G : BufTy.Contents (Elt F) arg8.view.ty) : ∀ n : ℕ, n ≤ k0_t1_loop.trips →
    arg8.view.read (Elt F) (arg8.view.writes (Elt F) G (pb_k0_t1 (F := F) 𝒱 c bd i arg2 harg2 arg3 harg3 arg4 harg4 arg5 harg5 arg6 harg6 arg7 harg7 arg8 harg8 arg1 v0 v11 X2 X3 X4 G n))
      = sumsAt arg1 v0 v11 (arg2.view.read (Elt F) X2) (arg3.view.read (Elt F) X3) (arg4.view.read (Elt F) X4)
          (arg8.view.read (Elt F) G) n
  | 0, _ => by
    funext y
    unfold pb_k0_t1 sumsAt
    rw [if_neg (Nat.not_lt_zero _)]
    rfl
  | n + 1, hn => by
    have hlt : n < k0_t1_loop.trips := hn
    have ih := read_pb G n (Nat.le_of_lt hlt)
    have hs := pb_k0_t1_succ (F := F) 𝒱 c bd i arg2 harg2 arg3 harg3 arg4 harg4 arg5 harg5 arg6 harg6 arg7 harg7 arg8 harg8 arg1 v0 v11 X2 X3 X4 G ⟨n, hlt⟩
    rw [tripL_eq, List.singleton_append, ih] at hs
    rw [hs]
    funext y
    by_cases hy : (y 0).val = n
    · rw [View.read_writes_cons_unit_of_mem (x := inSlab y) (heq := k0_off3_eq ⟨n, hlt⟩) (hx := by
        intro a
        fin_cases a
        · show (y 0).val = n + 0; omega
        · show (y 1).val = 0 + (y 1).val; omega
        · show (y 2).val = 0 + (y 2).val; omega)]
      unfold sumsAt sumsNew
      rw [if_pos (by omega), show slabOf y = ⟨n, hlt⟩ from Fin.ext hy]
      refine congrFun (slabNew_congr _ _ _ _ _ _ _ _ _ fun z hz => ?_) _
      rw [if_neg (by rw [hz]; exact Nat.lt_irrefl _)]
    · rw [View.read_writes_cons_unit_of_not_mem (heq := k0_off3_eq ⟨n, hlt⟩) (a := 0) (ha := by
        show (y 0).val < n ∨ n + 1 ≤ (y 0).val
        omega), ih]
      unfold sumsAt
      by_cases h : (y 0).val < n
      · rw [if_pos h, if_pos (by omega)]
      · rw [if_neg h, if_neg (by omega)]

/-- After the loop the running sums are `sumsNew`. -/
theorem read_loop (G : BufTy.Contents (Elt F) arg8.view.ty) :
    arg8.view.read (Elt F) (arg8.view.writes (Elt F) G (pb_k0_t1 (F := F) 𝒱 c bd i arg2 harg2 arg3 harg3 arg4 harg4 arg5 harg5 arg6 harg6 arg7 harg7 arg8 harg8 arg1 v0 v11 X2 X3 X4 G k0_t1_loop.trips))
      = sumsNew arg1 v0 v11 (arg2.view.read (Elt F) X2) (arg3.view.read (Elt F) X3) (arg4.view.read (Elt F) X4)
          (arg8.view.read (Elt F) G) := by
  refine (read_pb 𝒱 c bd i arg2 harg2 arg3 harg3 arg4 harg4 arg5 harg5 arg6 harg6 arg7 harg7 arg8 harg8 arg1 v0 v11 X2 X3 X4 G _ (Nat.le_refl _)).trans ?_
  funext y
  unfold sumsAt
  rw [if_pos (by rw [trips_eq]; exact (y 0).isLt)]

end Cert.Kernel.Own

end
-- ==== Proof.Kernel.Body.lean ====
/- The kernel's body at one grid point, on any staging buffers: what it leaves in the running sums and, at the last block of
   columns, in the output block. -/
module

public import proofs.«01_k».proof.Proof.Kernel.Trip
public import proofs.«01_k».proof.Proof.Gen.Kernel.Points
public import Idealize.ShloMosaic.Lib.Pipeline.FrameBody
public import Idealize.ShloMosaic.Lib.Ring
public import Idealize.ShloMosaic.Lib.VecWindow
public import Idealize.ShloMosaic.Lib.Tactic

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

local notation "𝕄" => MT nD τ sig Unit (Elt F) ℕ (UR sig nD τ) ℕ

/-! ## The output block -/

/-- The index of slab `r` of the running sums at a place of a slab. -/
def slabIdx (r : Fin 14) (j : S1x1024x256.Idx) : S14x1024x256.Idx := fun
  | ⟨0, _⟩ => ⟨r.val, r.isLt⟩
  | ⟨1, _⟩ => ⟨(j 1).val, (j 1).isLt⟩
  | ⟨2, _⟩ => ⟨(j 2).val, (j 2).isLt⟩

/-- The slab an output column belongs to. -/
def colSlab (y : S1024x3584.Idx) : Fin 14 := ⟨(y 1).val / 256, by have h : (y 1).val < 3584 := (y 1).isLt; omega⟩

/-- The place of an output index within its slab. -/
def colPlace (y : S1024x3584.Idx) : S1024x256.Idx := fun
  | ⟨0, _⟩ => ⟨(y 0).val, (y 0).isLt⟩
  | ⟨1, _⟩ => ⟨(y 1).val % 256, Nat.mod_lt _ (by decide)⟩

/-- The output block written from running sums `s`: the 14 slabs side by side, rounded. -/
def outOf (s : Vec F S14x1024x256 .f32) : Vec F S1024x3584 .bf16 :=
  fun y => k0_pay5 (fun j => s (slabIdx (colSlab y) j)) (colPlace y)

/-- A store of one rounded slab `r` at columns `256 r ..` is a piece of `outOf`. -/
theorem piece_outOf (s : Vec F S14x1024x256 .f32) (r : Fin 14) {off3 : Fin 3 → ℕ} {off2 : Fin 2 → ℕ}
    (h3 : off3 = ![r.val, 0, 0]) (h2 : off2 = ![0, 256 * r.val])
    (inb3 : ∀ a, off3 a + S1x1024x256.size a ≤ S14x1024x256.size a) (inb2 : ∀ a, off2 a + S1024x256.size a ≤ S1024x3584.size a)
    (x : (Rect.unit (s := S1024x3584) off2 S1024x256.size inb2).shape.Idx) :
    k0_pay5 (fun j => s ((Rect.unit (s := S14x1024x256) off3 S1x1024x256.size inb3).emb j)) x
      = outOf s ((Rect.unit (s := S1024x3584) off2 S1024x256.size inb2).emb x) := by
  subst h3; subst h2
  have hx1 : (x 1).val < 256 := (x 1).isLt
  unfold outOf
  have hc : colSlab ((Rect.unit (s := S1024x3584) ![0, 256 * r.val] S1024x256.size inb2).emb x) = r := Fin.ext (by
    show (256 * r.val + 1 * (x 1).val) / 256 = r.val
    omega)
  have hp : colPlace ((Rect.unit (s := S1024x3584) ![0, 256 * r.val] S1024x256.size inb2).emb x) = x := by
    funext a
    fin_cases a
    · exact Fin.ext (show 0 + 1 * (x 0).val = (x 0).val by omega)
    · exact Fin.ext (show (256 * r.val + 1 * (x 1).val) % 256 = (x 1).val by omega)
  rw [hc, hp]
  refine congrArg (fun w => k0_pay5 w x) (funext fun j => congrArg s ?_)
  have hj : (j 0).val < 1 := (j 0).isLt
  funext a
  fin_cases a
  · exact Fin.ext (show r.val + 1 * (j 0).val = r.val by omega)
  · exact Fin.ext (show 0 + 1 * (j 1).val = (j 1).val by omega)
  · exact Fin.ext (show 0 + 1 * (j 2).val = (j 2).val by omega)

/-- The same for a slab loaded from a buffer whose contents read as `s`. -/
theorem piece_read (arg8 : Memref sig .tc .vmem S14x1024x256 .f32) {s : Vec F S14x1024x256 .f32} (f : BufTy.Contents (Elt F) arg8.view.ty)
    (hf : arg8.view.read (Elt F) f = s) (r : Fin 14) {off3 : Fin 3 → ℕ} {off2 : Fin 2 → ℕ}
    (h3 : off3 = ![r.val, 0, 0]) (h2 : off2 = ![0, 256 * r.val])
    (inb3 : ∀ a, off3 a + S1x1024x256.size a ≤ S14x1024x256.size a) (inb2 : ∀ a, off2 a + S1024x256.size a ≤ S1024x3584.size a)
    (x : (Rect.unit (s := S1024x3584) off2 S1024x256.size inb2).shape.Idx) :
    k0_pay5 (View.readAt (Elt F) arg8.view (Rect.unit (s := S14x1024x256) off3 S1x1024x256.size inb3).toLoadRect f) x
      = outOf s ((Rect.unit (s := S1024x3584) off2 S1024x256.size inb2).emb x) := by
  subst hf
  exact piece_outOf _ r h3 h2 inb3 inb2 x

/-! ## The body -/

/-- Whether a point is in the last block of columns. -/
abbrev isLast (i : grid0.Coords) : Prop := k0_cond1 i = 1#1

/-- The running sums after the body, from the input blocks and what it found in them. -/
abbrev sumsAfter (i : grid0.Coords) (x0 : Vec F S1x3584 .i32) (x1 : Vec F S1024x512 .bf16) (x2 : Vec F S1792x512 .i8)
    (x3 : Vec F S28x512 .bf16) (x4 : Vec F S14x512 .i8) (xs : Vec F S14x1024x256 .f32) : Vec F S14x1024x256 .f32 :=
  sumsNew (BitVec.ofNat 32 (i 1).val) x4 x3 x0 x1 x2 xs

variable (c : Dev nD) (i : grid0.Coords)
  (arg2 : Memref sig .tc .vmem S1x3584 .i32) (harg2 : arg2.IsWhole) (arg3 : Memref sig .tc .vmem S1024x512 .bf16) (harg3 : arg3.IsWhole)
  (arg4 : Memref sig .tc .vmem S1792x512 .i8) (harg4 : arg4.IsWhole) (arg5 : Memref sig .tc .vmem S28x512 .bf16) (harg5 : arg5.IsWhole)
  (arg6 : Memref sig .tc .vmem S14x512 .i8) (harg6 : arg6.IsWhole) (arg7 : Memref sig .tc .vmem S1024x3584 .bf16) (harg7 : arg7.IsWhole)
  (arg8 : Memref sig .tc .vmem S14x1024x256 .f32) (harg8 : arg8.IsWhole)
  (x0 : Vec F S1x3584 .i32) (x1 : Vec F S1024x512 .bf16) (x2 : Vec F S1792x512 .i8) (x3 : Vec F S28x512 .bf16) (x4 : Vec F S14x512 .i8)
  (xs : Vec F S14x1024x256 .f32)

/-- The loop's result over whole memrefs, the two tables loaded whole. -/
theorem read_loop_unread(arg1 : BitVec 32) :
    arg8.view.read (Elt F) (arg8.view.writes (Elt F) (harg8.unread xs) (pb_k0_t1 (F := F) Variants.none c none i arg2 harg2 arg3 harg3 arg4 harg4 arg5 harg5 arg6 harg6 arg7 harg7 arg8 harg8 arg1
        (View.readAt (Elt F) arg6.view (Rect.unit (s := S14x512) ![0, 0] S14x512.size inb_S14x512_S14x512_0_0).toLoadRect (harg6.unread x4))
        (View.readAt (Elt F) arg5.view (Rect.unit (s := S28x512) ![0, 0] S28x512.size inb_S28x512_S28x512_0_0).toLoadRect (harg5.unread x3))
        (harg2.unread x0) (harg3.unread x1) (harg4.unread x2) (harg8.unread xs) k0_t1_loop.trips))
      = sumsNew arg1 x4 x3 x0 x1 x2 xs := by
  rw [read_loop, harg2.read_unread, harg3.read_unread, harg4.read_unread, harg8.read_unread, View.readAt_full, View.readAt_full,
    harg5.read_unread, harg6.read_unread]

set_option maxHeartbeats 1000000 in
/-- The body in a block of columns that is not the last: the running sums move on, the output block stays. -/
theorem body_mid (hc : ¬isLast i) (xi : Vec F S1024x3584 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare (sumsAfter i x0 x1 x2 x3 x4 xs)) -∗ K ⟨⟩))
      ⊢ wp frame (wpE (defs₀ (F := F)) Variants.none c none) E (cc0_gptq_dgrad i arg2 harg2 arg3 harg3 arg4 harg4 arg5 harg5 arg6 harg6 arg7 harg7 arg8 harg8) K := by
  simp only [cc0_gptq_dgrad_eq_skeleton]; unfold cc0_gptq_dgrad_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  iexists _; isplitr; swap; · iexact HS0
  ipureintro
  exact read_loop_unread c i arg2 harg2 arg3 harg3 arg4 harg4 arg5 harg5 arg6 harg6 arg7 harg7 arg8 harg8 x0 x1 x2 x3 x4 xs _

set_option maxHeartbeats 1000000 in
/-- The body in the last block of columns: the running sums move on and the output block is written from them. -/
theorem body_last (hc : isLast i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf (sumsAfter i x0 x1 x2 x3 x4 xs)) ∗ owns (c : Thread nD τ) arg8 fullShare (sumsAfter i x0 x1 x2 x3 x4 xs)) -∗ K ⟨⟩))
      ⊢ wp frame (wpE (defs₀ (F := F)) Variants.none c none) E (cc0_gptq_dgrad i arg2 harg2 arg3 harg3 arg4 harg4 arg5 harg5 arg6 harg6 arg7 harg7 arg8 harg8) K := by
  simp only [cc0_gptq_dgrad_eq_skeleton]; unfold cc0_gptq_dgrad_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hr := read_loop_unread c i arg2 harg2 arg3 harg3 arg4 harg4 arg5 harg5 arg6 harg6 arg7 harg7 arg8 harg8 x0 x1 x2 x3 x4 xs (BitVec.ofNat 32 (i 1).val)
    funext y
    refine View.read_writes_apply_of_pieces _ _ (outOf (sumsAfter i x0 x1 x2 x3 x4 xs)) _ ?_ y
      (View.cover_of_tiledL (s := S1024x3584) _ S1024x256.size (by sl_kernel_rfl) y)
    refine List.forall_mem_cons.mpr ⟨piece_read arg8 _ hr 13 rfl rfl inb_S14x1024x256_S1x1024x256_13_0_0 inb_S1024x3584_S1024x256_0_3328, ?_⟩
    refine List.forall_mem_cons.mpr ⟨piece_read arg8 _ hr 12 rfl rfl inb_S14x1024x256_S1x1024x256_12_0_0 inb_S1024x3584_S1024x256_0_3072, ?_⟩
    refine List.forall_mem_cons.mpr ⟨piece_read arg8 _ hr 11 rfl rfl inb_S14x1024x256_S1x1024x256_11_0_0 inb_S1024x3584_S1024x256_0_2816, ?_⟩
    refine List.forall_mem_cons.mpr ⟨piece_read arg8 _ hr 10 rfl rfl inb_S14x1024x256_S1x1024x256_10_0_0 inb_S1024x3584_S1024x256_0_2560, ?_⟩
    refine List.forall_mem_cons.mpr ⟨piece_read arg8 _ hr 9 rfl rfl inb_S14x1024x256_S1x1024x256_9_0_0 inb_S1024x3584_S1024x256_0_2304, ?_⟩
    refine List.forall_mem_cons.mpr ⟨piece_read arg8 _ hr 8 rfl rfl inb_S14x1024x256_S1x1024x256_8_0_0 inb_S1024x3584_S1024x256_0_2048, ?_⟩
    refine List.forall_mem_cons.mpr ⟨piece_read arg8 _ hr 7 rfl rfl inb_S14x1024x256_S1x1024x256_7_0_0 inb_S1024x3584_S1024x256_0_1792, ?_⟩
    refine List.forall_mem_cons.mpr ⟨piece_read arg8 _ hr 6 rfl rfl inb_S14x1024x256_S1x1024x256_6_0_0 inb_S1024x3584_S1024x256_0_1536, ?_⟩
    refine List.forall_mem_cons.mpr ⟨piece_read arg8 _ hr 5 rfl rfl inb_S14x1024x256_S1x1024x256_5_0_0 inb_S1024x3584_S1024x256_0_1280, ?_⟩
    refine List.forall_mem_cons.mpr ⟨piece_read arg8 _ hr 4 rfl rfl inb_S14x1024x256_S1x1024x256_4_0_0 inb_S1024x3584_S1024x256_0_1024, ?_⟩
    refine List.forall_mem_cons.mpr ⟨piece_read arg8 _ hr 3 rfl rfl inb_S14x1024x256_S1x1024x256_3_0_0 inb_S1024x3584_S1024x256_0_768, ?_⟩
    refine List.forall_mem_cons.mpr ⟨piece_read arg8 _ hr 2 rfl rfl inb_S14x1024x256_S1x1024x256_2_0_0 inb_S1024x3584_S1024x256_0_512, ?_⟩
    refine List.forall_mem_cons.mpr ⟨piece_read arg8 _ hr 1 rfl rfl inb_S14x1024x256_S1x1024x256_1_0_0 inb_S1024x3584_S1024x256_0_256, ?_⟩
    refine List.forall_mem_cons.mpr ⟨piece_read arg8 _ hr 0 rfl rfl inb_S14x1024x256_S1x1024x256_0_0_0 inb_S1024x3584_S1024x256_0_0, ?_⟩
    exact fun _ h => absurd h List.not_mem_nil
  iexists _; isplitr; swap; · iexact HS0
  ipureintro
  exact read_loop_unread c i arg2 harg2 arg3 harg3 arg4 harg4 arg5 harg5 arg6 harg6 arg7 harg7 arg8 harg8 x0 x1 x2 x3 x4 xs _

end Cert.Kernel.Own

end
-- ==== Proof.Kernel.Frame.lean ====
/- The kernel's launch: the proof data of its pipeline over the 74 points (2 blocks of rows by 37 blocks of columns), the
   body's obligation at each point, and the frame: every execution ends, with the arguments unchanged and every semaphore at
   zero. -/
module

public import proofs.«01_k».proof.Proof.Kernel.Body
public import proofs.«01_k».proof.Proof.Gen.Kernel.Launch
public import Idealize.ShloMosaic.Lib.Pipeline.FrameSuffix
public import Idealize.ShloMosaic.Lib.WordCmp
public import Idealize.ShloMosaic.Lib.Claim

@[expose] public section

set_option maxRecDepth 16384

noncomputable section

namespace Cert.Kernel.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- A point's block of rows. -/
theorem row_of (t : Fin cfg0.N) : (grid0.coords t 0).val = t.val / 37 := by
  have ht : t.val < 74 := Nat.lt_of_lt_of_eq t.isLt N_0
  have e0 : (grid0.coords t 0).val = t.val / 37 % 2 := Pipeline.Grid.coords_val t 0 (by decide) rfl
  omega

/-- A point's block of columns. -/
theorem col_of (t : Fin cfg0.N) : (grid0.coords t 1).val = t.val % 37 := by
  have e1 : (grid0.coords t 1).val = t.val / 1 % 37 := Pipeline.Grid.coords_val t 1 (by decide) rfl
  rwa [Nat.div_one] at e1

/-- The last block of columns is the 37th. -/
theorem isLast_iff : ∀ t : Fin cfg0.N, isLast (grid0.coords t) ↔ t.val % 37 = 36 :=
  (fun t => by
    have ht : t.val < 74 := Nat.lt_of_lt_of_eq t.isLt N_0
    have e0 : (grid0.coords t 0).val = t.val / 37 % 2 := Pipeline.Grid.coords_val t 0 (by decide) rfl
    have e1 : (grid0.coords t 1).val = t.val / 1 % 37 := Pipeline.Grid.coords_val t 1 (by decide) rfl
    simp only [isLast, k0_cond1, e0, e1]
    word_cmp
   : ∀ t : Fin grid0.N, isLast (grid0.coords t) ↔ t.val % 37 = 36)

/-- No input window is ever idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl

/-- The output block is idle, and not written back, except in the last block of columns. -/
theorem idle_5 : ∀ t : Fin cfg0.N, ¬isLast (grid0.coords t) → cfg0.idle 5 (grid0.coords t) = true := by decide +kernel
theorem noFlush_5 : ∀ t : Fin cfg0.N, ¬isLast (grid0.coords t) → (cfg0.win 5).flush t = false := by decide +kernel
theorem live_5 : ∀ t : Fin cfg0.N, isLast (grid0.coords t) → cfg0.idle 5 (grid0.coords t) = false := by decide +kernel

/-! ## The buffers the body is handed -/

abbrev ms_0 (t : Fin cfg0.N) : Memref sig .tc .vmem S1x3584 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1792x512 .i8 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S28x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S14x512 .i8 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x3584 .bf16 := win0_5.stage (cfg0.slots t 5)
abbrev hs_5 (t : Fin cfg0.N) : (ms_5 t).IsWhole := hstage0_5 ((cfg0.slots t 5).cast nbuf0_5)
/-- The running sums: a whole buffer of the kernel's own. -/
abbrev scM : Memref sig .tc .vmem S14x1024x256 .f32 := Memref.whole cc0_scratch0

/-- The region's own buffer at some contents, and the generator register at some state. -/
theorem scoped_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The running sums, point by point -/

/-- In the first block of columns the new sums do not depend on what was there. -/
theorem sumsAfter_first (i : grid0.Coords) (hi : (i 1).val = 0) (x0 : Vec F S1x3584 .i32) (x1 : Vec F S1024x512 .bf16)
    (x2 : Vec F S1792x512 .i8) (x3 : Vec F S28x512 .bf16) (x4 : Vec F S14x512 .i8) (xs ys : Vec F S14x1024x256 .f32) :
    sumsAfter i x0 x1 x2 x3 x4 xs = sumsAfter i x0 x1 x2 x3 x4 ys := by
  funext y
  show slabNew _ _ _ _ _ _ _ _ _ = slabNew _ _ _ _ _ _ _ _ _
  unfold slabNew
  rw [hi]
  rfl

/-- The new sums at point `t` from what was there. -/
def stepAt (c : Dev nD) (t : Fin cfg0.N) (xs : Vec F S14x1024x256 .f32) : Vec F S14x1024x256 .f32 :=
  sumsAfter (grid0.coords t) (iblk m c 0 t) (iblk m c 1 t) (iblk m c 2 t) (iblk m c 3 t) (iblk m c 4 t) xs

/-- The sums after point `n`. Before the first point they are anything; the first point does not read them. -/
def sumsOf (c : Dev nD) : (n : ℕ) → n < cfg0.N → Vec F S14x1024x256 .f32
  | 0, h => stepAt m c ⟨0, h⟩ (scM.view.read (Elt F) scM.view.junk)
  | n + 1, h => stepAt m c ⟨n + 1, h⟩ (sumsOf c n (Nat.lt_of_succ_lt h))

/-- At a first block of columns the sums are the step from anything. -/
theorem sumsOf_first (c : Dev nD) (t : Fin cfg0.N) (ht : t.val % 37 = 0) (xs : Vec F S14x1024x256 .f32) :
    sumsOf m c t.val t.isLt = stepAt m c t xs := by
  obtain ⟨n, hn⟩ := t
  cases n with
  | zero => exact sumsAfter_first _ ((col_of _).trans ht) _ _ _ _ _ _ _
  | succ n => exact sumsAfter_first _ ((col_of _).trans ht) _ _ _ _ _ _ _

/-- At any later point they are the step from what the point before left. -/
theorem sumsOf_pos (c : Dev nD) (t : Fin cfg0.N) (hz : t.val ≠ 0) :
    sumsOf m c t.val t.isLt = stepAt m c t (sumsOf m c (t.val - 1) (by omega)) := by
  obtain ⟨n, hn⟩ := t
  cases n with
  | zero => exact absurd rfl hz
  | succ n => rfl

/-- The region's invariant before point `n`: the running sums at what the point before left. -/
def PhiS (c : Dev nD) : (n : ℕ) → n ≤ cfg0.N → sProp 𝕄
  | 0, _ => Pipeline.ΦA spec0 c
  | n + 1, h => iprop(iprop(owns (c : Thread nD τ) scM fullShare (sumsOf m c n h)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (sumsOf m c n hn)) ∗ (∃ r, prngReg c r)) := rfl

theorem PhiS_pos (c : Dev nD) (n : ℕ) (h : n ≤ cfg0.N) (hz : n ≠ 0) :
    PhiS m c n h = iprop(iprop(owns (c : Thread nD τ) scM fullShare (sumsOf m c (n - 1) (by omega))) ∗ (∃ r, prngReg c r)) := by
  cases n with
  | zero => exact absurd rfl hz
  | succ n => rfl

/-- Before any point the running sums are at contents from which the point's step is the one stated. -/
theorem PhiS_open (c : Dev nD) (t : Fin cfg0.N) :
    PhiS m c t.val (Nat.le_of_lt t.isLt)
      ⊢ iprop((∃ d, owns (c : Thread nD τ) scM fullShare d ∗ ⌜stepAt m c t d = sumsOf m c t.val t.isLt⌝) ∗ (∃ r, prngReg c r)) := by
  by_cases hz : t.val = 0
  · rw [PhiS_zero m c _ _ hz, scoped_eq]
    iintro ⟨⟨%d, HS⟩, Hg⟩
    isplitl [HS]
    · iexists d; isplitl [HS]; · iexact HS
      ipureintro; exact (sumsOf_first m c t (by rw [hz]) d).symm
    iexact Hg
  · rw [PhiS_pos m c _ _ hz]
    iintro ⟨HS, Hg⟩
    isplitl [HS]
    · iexists _; isplitl [HS]; · iexact HS
      ipureintro; exact (sumsOf_pos m c t hz).symm
    iexact Hg

/-! ## The pipeline's proof data -/

/-- The arrays as the region finds them; after each point the inputs' buffers at their blocks and the output's at the
    rounded sums; the invariant the running sums'; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (sumsOf m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outOf (sumsOf m c t.val t.isLt) := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What each input's buffer is left at. -/
theorem leaves_0 (c : Dev nD) (t : Fin cfg0.N) : (dats m 0 c).leavesExact 0 t = owns (c : Thread nD τ) (ms_0 t) fullShare (iblk m c 0 t) := by
  rw [← after_0]
theorem leaves_1 (c : Dev nD) (t : Fin cfg0.N) : (dats m 0 c).leavesExact 1 t = owns (c : Thread nD τ) (ms_1 t) fullShare (iblk m c 1 t) := by
  rw [← after_1]
theorem leaves_2 (c : Dev nD) (t : Fin cfg0.N) : (dats m 0 c).leavesExact 2 t = owns (c : Thread nD τ) (ms_2 t) fullShare (iblk m c 2 t) := by
  rw [← after_2]
theorem leaves_3 (c : Dev nD) (t : Fin cfg0.N) : (dats m 0 c).leavesExact 3 t = owns (c : Thread nD τ) (ms_3 t) fullShare (iblk m c 3 t) := by
  rw [← after_3]
theorem leaves_4 (c : Dev nD) (t : Fin cfg0.N) : (dats m 0 c).leavesExact 4 t = owns (c : Thread nD τ) (ms_4 t) fullShare (iblk m c 4 t) := by
  rw [← after_4]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, PhiS_castSucc m c t]
  by_cases h1 : t.val % 37 = 36
  · have hl : isLast (grid0.coords t) := (isLast_iff t).mpr h1
    rw [show (dats m 0 c).leavesExact 5 t = owns (c : Thread nD τ) (ms_5 t) fullShare ((dats m 0 c).after 5 t) from by
      unfold Dat.leavesExact; rw [live_5 t hl], after_5]
    iintro ⟨HP, Ho, ⟨%d0, H0⟩, ⟨%d1, H1⟩, ⟨%d2, H2⟩, ⟨%d3, H3⟩, ⟨%d4, H4⟩, ⟨%d5, H5⟩⟩
    ihave HP := (PhiS_open m c t) $$ HP
    icases HP with ⟨⟨%ds, HS0, %hs⟩, Hg⟩
    rw [← hs]
    iapply (body_last c (grid0.coords t) _ (hs_0 t) _ (hs_1 t) _ (hs_2 t) _ (hs_3 t) _ (hs_4 t) _ (hs_5 t) _ (Memref.isWhole_whole _) (iblk m c 0 t) (iblk m c 1 t) (iblk m c 2 t) (iblk m c 3 t) (iblk m c 4 t) ds hl Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · have hl : ¬isLast (grid0.coords t) := fun h => h1 ((isLast_iff t).mp h)
    rw [Dat.leavesExact_idle (dats m 0 c) 5 t (idle_5 t hl) (noFlush_5 t hl)]
    iintro ⟨HP, Ho, ⟨%d0, H0⟩, ⟨%d1, H1⟩, ⟨%d2, H2⟩, ⟨%d3, H3⟩, ⟨%d4, H4⟩, ⟨%d5, H5⟩⟩
    ihave HP := (PhiS_open m c t) $$ HP
    icases HP with ⟨⟨%ds, HS0, %hs⟩, Hg⟩
    rw [← hs]
    iapply (body_mid c (grid0.coords t) _ (hs_0 t) _ (hs_1 t) _ (hs_2 t) _ (hs_3 t) _ (hs_4 t) _ (hs_5 t) _ (Memref.isWhole_whole _) (iblk m c 0 t) (iblk m c 1 t) (iblk m c 2 t) (iblk m c 3 t) (iblk m c 4 t) ds hl _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  have hN : cfg0.N = 74 := N_0
  rw [show (dats m 0 c).Φ (Fin.last cfg0.N) = PhiS m c cfg0.N (Nat.le_refl _) from rfl, PhiS_pos m c _ _ (by omega), scoped_eq]
  iintro ⟨HS0, Hg⟩
  isplitl [HS0]
  · iexists _; iexact HS0
  iexact Hg

/-! ## The run and the frame -/

-- the run theorem's implicit arguments are found by unifying its conclusion with this one
set_option backward.isDefEq.respectTransparency.types false in
/-- Every execution of the program ends, with every array of the pipeline at what the proof data say, every other buffer at
    what the host lines after the region leave in it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Own

end
-- ==== Proof.Spec.lean ====
/- The mathematics both programs compute, over the extended reals: the weight of an output row at a column, from the packed
   4-bit codes, the packed 4-bit zero points, the scales and the row's group; and facts about sums and bits used on both
   sides. -/
module

public import Idealize.ShloMosaic.Lib.Pointwise
public import Idealize.ShloMosaic.Lib.ValueIdx

@[expose] public section

set_option maxRecDepth 16384

noncomputable section

namespace Cert.Spec

open Idealize.ShloMosaic Idealize.ShloMosaic.Tactic

/-- A natural number as an extended real. -/
def nat (n : ℕ) : EReal := ((n : ℝ) : EReal)

/-- The 4-bit code of output row `j` in its byte: the low half for even rows, the high half for odd rows. -/
def code (j : ℕ) (q : BitVec 8) : ℕ := if j % 2 = 0 then q.toNat % 16 else q.toNat / 16

variable {N : ℕ}

/-- The zero point of group `g` at column `n`: groups below 14 in the low halves, the others in the high halves. -/
def zero (z : (⟨2, ![14, N]⟩ : Shape).Idx → BitVec 8) (g : ℕ) (n : Fin N) : EReal :=
  if h : g < 14 then nat ((z (ix2 ⟨g, h⟩ n)).toNat % 16)
  else if h' : g < 28 then nat ((z (ix2 ⟨g - 14, by omega⟩ n)).toNat / 16) else 0

/-- The scale of group `g` at column `n`. -/
def scale (s : (⟨2, ![28, N]⟩ : Shape).Idx → EReal) (g : ℕ) (n : Fin N) : EReal :=
  if h : g < 28 then s (ix2 ⟨g, h⟩ n) else 0

/-- The weight of output row `j`, of group `g`, at column `n`. -/
def weight (q : (⟨2, ![1792, N]⟩ : Shape).Idx → BitVec 8) (z : (⟨2, ![14, N]⟩ : Shape).Idx → BitVec 8)
    (s : (⟨2, ![28, N]⟩ : Shape).Idx → EReal) (g : ℕ) (j : Fin 3584) (n : Fin N) : EReal :=
  (nat (code j.val (q (ix2 ⟨j.val / 2, by omega⟩ n))) - zero z g n) * scale s g n

/-- The product of a row of the activations with the weight of an output row, at a column. -/
def term (y : (⟨3, ![2048, 1, 18944]⟩ : Shape).Idx → EReal) (q : (⟨2, ![1792, 18944]⟩ : Shape).Idx → BitVec 8)
    (z : (⟨2, ![14, 18944]⟩ : Shape).Idx → BitVec 8) (s : (⟨2, ![28, 18944]⟩ : Shape).Idx → EReal)
    (g : (⟨1, ![3584]⟩ : Shape).Idx → BitVec 32) (b : Fin 2048) (j : Fin 3584) (n : Fin 18944) : EReal :=
  y (ix3 b 0 n) * weight q z s (g (ix1 j)).toNat j n

/-- The result at a row of the activations and an output row. -/
def result (y : (⟨3, ![2048, 1, 18944]⟩ : Shape).Idx → EReal) (q : (⟨2, ![1792, 18944]⟩ : Shape).Idx → BitVec 8)
    (z : (⟨2, ![14, 18944]⟩ : Shape).Idx → BitVec 8) (s : (⟨2, ![28, 18944]⟩ : Shape).Idx → EReal)
    (g : (⟨1, ![3584]⟩ : Shape).Idx → BitVec 32) (b : Fin 2048) (j : Fin 3584) : EReal :=
  ∑ n : Fin 18944, term y q z s g b j n

/-! ## Words -/

/-- A 32-bit word that holds a small natural number, converted. -/
theorem sitofp_small (φ : FTy) (w : BitVec 32) (h : w.toNat < 2 ^ 31) : FloatOps.sitofp (F := Ideal) φ w = nat w.toNat := by
  show (((w.toInt : ℝ)) : EReal) = _
  rw [BitVec.toInt_eq_toNat_of_lt (by omega)]
  simp [nat]

/-- The low half of a byte, by masking. -/
theorem low_half (q : BitVec 8) : (IntOp.andi (BitVec.setWidth 32 q) 15#32).toNat = q.toNat % 16 := by
  revert q; decide +kernel

/-- The high half of a byte, by shifting. -/
theorem high_half (u : ArithUnit) (q : BitVec 8) :
    (IntOp.shrsi u (BitVec.setWidth 32 q) 4#32).toNat = q.toNat / 16 := by
  cases u <;> (revert q; decide +kernel)

/-- A word checked to be at least 0 and below 28, read signed, is a natural number below 28. -/
theorem named_of_checks (w : BitVec 32)
    (h : IntOp.andi (IntOp.cmpi CmpIPredicate.sge w 0#32) (IntOp.cmpi CmpIPredicate.slt w 28#32) = 1#1) : w.toNat < 28 := by
  have h' : BitVec.ofBool ((0#32).sle w) &&& BitVec.ofBool (w.slt 28#32) = 1#1 := h
  have h0 : (0#32).sle w = true := by
    cases hb : (0#32).sle w with
    | true => rfl
    | false => rw [hb] at h'; cases hc : w.slt 28#32 <;> rw [hc] at h' <;> exact absurd h' (by decide)
  have h1 : w.slt 28#32 = true := by
    cases hb : w.slt 28#32 with
    | true => rfl
    | false => rw [h0, hb] at h'; exact absurd h' (by decide)
  have h0' : (0 : ℤ) ≤ w.toInt := by simpa [BitVec.sle] using h0
  have h1' : w.toInt < 28 := by simpa [BitVec.slt] using h1
  rw [BitVec.toInt_eq_toNat_cond] at h0' h1'
  have := w.isLt
  split at h0' <;> split at h1' <;> omega

/-- A one-hot row against a table picks the table's row. -/
theorem pick (w : BitVec 32) (hw : w.toNat < 28) (tab : Fin 32 → EReal) :
    (∑ x : Fin 32, FloatOps.sitofp (F := Ideal) FTy.f32 (BitVec.setWidth 32 (IntOp.cmpi CmpIPredicate.eq (BitVec.ofNat 32 x.val) w)) * tab x)
      = tab ⟨w.toNat, by omega⟩ := by
  rw [Finset.sum_eq_single (⟨w.toNat, by omega⟩ : Fin 32)]
  · have : IntOp.cmpi CmpIPredicate.eq (BitVec.ofNat 32 w.toNat) w = 1#1 := by
      simp [IntOp.cmpi]
    rw [this, sitofp_small _ _ (by decide)]
    simp [nat]
  · intro x _ hx
    have : IntOp.cmpi CmpIPredicate.eq (BitVec.ofNat 32 x.val) w = 0#1 := by
      have hne : BitVec.ofNat 32 x.val ≠ w := by
        intro h
        apply hx
        apply Fin.ext
        have := congrArg BitVec.toNat h
        simp at this
        have hx' := x.isLt
        show x.val = w.toNat
        omega
      show BitVec.ofBool (BitVec.ofNat 32 x.val == w) = 0#1
      rw [beq_eq_false_iff_ne.mpr hne]; rfl
    rw [this, sitofp_small _ _ (by decide)]
    simp [nat]
  · intro h; exact absurd (Finset.mem_univ _) h

/-! ## Sums -/

/-- A sum over 37 blocks of 512 columns is the sum over the 18944 columns. -/
theorem sum_blocks (f : ℕ → EReal) :
    (∑ k ∈ Finset.range 37, ∑ n : Fin 512, f (512 * k + n.val)) = ∑ x : Fin 18944, f x.val := by
  rw [Finset.sum_range, ← Fintype.sum_prod_type' (f := fun (k : Fin 37) (n : Fin 512) => f (512 * k.val + n.val))]
  refine Fintype.sum_equiv finProdFinEquiv _ _ fun p => ?_
  rw [finProdFinEquiv_apply_val]
  exact congrArg f (Nat.add_comm _ _)

end Cert.Spec

end
-- ==== Proof.KernelIdeal.Trip.lean ====
/- One trip of the kernel's loop over the 14 slabs of output columns, in closed form: which slab of the running sums it
   overwrites and with what, and, over all trips together, what the loop leaves. -/
module

public import proofs.«01_k».proof.Proof.Gen.KernelIdeal.Frame
public import proofs.«01_k».proof.Proof.Gen.KernelIdeal.Skeleton
public import proofs.«01_k».proof.Proof.Gen.KernelIdeal.Loops
public import Idealize.ShloMosaic.Lib.WritesUnit

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open Cert.KernelIdeal.Gen

variable {F : FTy → Type} [FloatOps F]

variable (𝒱 : Variants) (c : Dev nD) (bd : Option 𝒱.V) (i : grid0.Coords)
  (arg2 : Memref sig .tc .vmem S1x3584 .i32) (harg2 : arg2.IsWhole) (arg3 : Memref sig .tc .vmem S1024x512 .bf16) (harg3 : arg3.IsWhole)
  (arg4 : Memref sig .tc .vmem S1792x512 .i8) (harg4 : arg4.IsWhole) (arg5 : Memref sig .tc .vmem S28x512 .bf16) (harg5 : arg5.IsWhole)
  (arg6 : Memref sig .tc .vmem S14x512 .i8) (harg6 : arg6.IsWhole) (arg7 : Memref sig .tc .vmem S1024x3584 .bf16) (harg7 : arg7.IsWhole)
  (arg8 : Memref sig .tc .vmem S14x1024x256 .f32) (harg8 : arg8.IsWhole)
  (arg1 : BitVec 32) (v0 : Vec F S14x512 .i8) (v11 : Vec F S28x512 .bf16)

/-! ## The values -/

section Values

variable (x0 : Vec F S1x3584 .i32) (x1 : Vec F S1024x512 .bf16) (x2 : Vec F S1792x512 .i8)

/-- The product of one trip: the block of activations against the dequantised weights of slab `k`. -/
def slabProd (k : Fin k0_t1_loop.trips) : FVec F S1024x256 .f32 :=
  k0_pay7 (k0_pay2 v0) (k0_pay3 v11)
    (fun j => x0 ((Rect.unit (s := S1x3584) (k0_off1 k) S1x256.size (k0_off1_inb k)).emb j))
    (fun j => x2 ((Rect.unit (s := S1792x512) (k0_off2 k) S128x512.size (k0_off2_inb k)).emb j))
    (fun j => x1 ((Rect.unit (s := S1024x512) ![0, 0] S1024x512.size inb_S1024x512_S1024x512_0_0).emb j))

/-- What trip `k` writes over slab `k`, having found `xs` in the running sums: the product alone in the first block of
    columns, the sum of the two in the others. -/
def slabNew (xs : Vec F S14x1024x256 .f32) (k : Fin k0_t1_loop.trips) : FVec F S1x1024x256 .f32 :=
  k0_pay4 (slabProd v0 v11 x0 x1 x2 k) (Scalar.cmpi .eq arg1 0#32)
    (k0_pay8 (k0_pay2 v0) (k0_pay3 v11)
      (fun j => x0 ((Rect.unit (s := S1x3584) (k0_off1 k) S1x256.size (k0_off1_inb k)).emb j))
      (fun j => x2 ((Rect.unit (s := S1792x512) (k0_off2 k) S128x512.size (k0_off2_inb k)).emb j))
      (fun j => x1 ((Rect.unit (s := S1024x512) ![0, 0] S1024x512.size inb_S1024x512_S1024x512_0_0).emb j))
      (fun j => xs ((Rect.unit (s := S14x1024x256) (k0_off3 k) S1x1024x256.size (k0_off3_inb k)).emb j)))

/-- The loop runs 14 trips. -/
theorem trips_eq : k0_t1_loop.trips = 14 := by decide

/-- The slab of an index of the running sums, as a trip. -/
def slabOf (y : S14x1024x256.Idx) : Fin k0_t1_loop.trips := ⟨(y 0).val, by rw [trips_eq]; exact (y 0).isLt⟩

/-- The place of an index of the running sums within its slab. -/
def inSlab (y : S14x1024x256.Idx) : S1x1024x256.Idx := fun
  | ⟨0, _⟩ => ⟨0, Nat.one_pos⟩
  | ⟨1, _⟩ => ⟨(y 1).val, (y 1).isLt⟩
  | ⟨2, _⟩ => ⟨(y 2).val, (y 2).isLt⟩

/-- The running sums after the loop, from what it found in them. -/
def sumsNew (xs : Vec F S14x1024x256 .f32) : Vec F S14x1024x256 .f32 :=
  fun y => slabNew arg1 v0 v11 x0 x1 x2 xs (slabOf y) (inSlab y)

/-- The running sums before trip `n`: the slabs below `n` are new. -/
def sumsAt (xs : Vec F S14x1024x256 .f32) (n : ℕ) : Vec F S14x1024x256 .f32 :=
  fun y => if (y 0).val < n then sumsNew arg1 v0 v11 x0 x1 x2 xs y else xs y

end Values

/-! ## The loop -/

/-- Where slab `k`'s rectangle places its own index. -/
theorem emb_slab_zero (k : Fin k0_t1_loop.trips) (j : S1x1024x256.Idx) :
    (((Rect.unit (s := S14x1024x256) (k0_off3 k) S1x1024x256.size (k0_off3_inb k)).emb j) 0).val = k.val := by
  show k0_off3 k 0 + 1 * (j 0).val = k.val
  rw [k0_off3_eq]
  have h : (j 0).val < 1 := (j 0).isLt
  show k.val + 1 * (j 0).val = k.val
  omega

variable (X2 : BufTy.Contents (Elt F) arg2.view.ty) (X3 : BufTy.Contents (Elt F) arg3.view.ty) (X4 : BufTy.Contents (Elt F) arg4.view.ty)

/-- One trip writes one piece: slab `k`, at `slabNew` of what the trip finds. -/
theorem tripL_eq (k : Fin k0_t1_loop.trips) (f : BufTy.Contents (Elt F) arg8.view.ty) :
    tripL_k0_t1 (F := F) 𝒱 c bd i arg2 harg2 arg3 harg3 arg4 harg4 arg5 harg5 arg6 harg6 arg7 harg7 arg8 harg8 arg1 v0 v11 X2 X3 X4 k f
      = [⟨Rect.unit (s := S14x1024x256) (k0_off3 k) S1x1024x256.size (k0_off3_inb k),
          slabNew arg1 v0 v11 (arg2.view.read (Elt F) X2) (arg3.view.read (Elt F) X3) (arg4.view.read (Elt F) X4)
            (arg8.view.read (Elt F) f) k⟩] := by
  unfold tripL_k0_t1 trip_k0_t1
  unfold trip_k0_t1.sl.r trip_k0_t1.sl.r_1 trip_k0_t1.sl.v56
  rfl

/-- A trip's new slab depends on the running sums through that slab alone. -/
theorem slabNew_congr (x0 : Vec F S1x3584 .i32) (x1 : Vec F S1024x512 .bf16) (x2 : Vec F S1792x512 .i8)
    (xs ys : Vec F S14x1024x256 .f32) (k : Fin k0_t1_loop.trips) (h : ∀ y, (y 0).val = k.val → xs y = ys y) :
    slabNew arg1 v0 v11 x0 x1 x2 xs k = slabNew arg1 v0 v11 x0 x1 x2 ys k := by
  unfold slabNew
  exact congrArg (fun w => k0_pay4 _ _ (k0_pay8 _ _ _ _ _ w)) (funext fun j => h _ (emb_slab_zero k j))

/-- Before trip `n` the running sums are `sumsAt`. -/
theorem read_pb (G : BufTy.Contents (Elt F) arg8.view.ty) : ∀ n : ℕ, n ≤ k0_t1_loop.trips →
    arg8.view.read (Elt F) (arg8.view.writes (Elt F) G (pb_k0_t1 (F := F) 𝒱 c bd i arg2 harg2 arg3 harg3 arg4 harg4 arg5 harg5 arg6 harg6 arg7 harg7 arg8 harg8 arg1 v0 v11 X2 X3 X4 G n))
      = sumsAt arg1 v0 v11 (arg2.view.read (Elt F) X2) (arg3.view.read (Elt F) X3) (arg4.view.read (Elt F) X4)
          (arg8.view.read (Elt F) G) n
  | 0, _ => by
    funext y
    unfold pb_k0_t1 sumsAt
    rw [if_neg (Nat.not_lt_zero _)]
    rfl
  | n + 1, hn => by
    have hlt : n < k0_t1_loop.trips := hn
    have ih := read_pb G n (Nat.le_of_lt hlt)
    have hs := pb_k0_t1_succ (F := F) 𝒱 c bd i arg2 harg2 arg3 harg3 arg4 harg4 arg5 harg5 arg6 harg6 arg7 harg7 arg8 harg8 arg1 v0 v11 X2 X3 X4 G ⟨n, hlt⟩
    rw [tripL_eq, List.singleton_append, ih] at hs
    rw [hs]
    funext y
    by_cases hy : (y 0).val = n
    · rw [View.read_writes_cons_unit_of_mem (x := inSlab y) (heq := k0_off3_eq ⟨n, hlt⟩) (hx := by
        intro a
        fin_cases a
        · show (y 0).val = n + 0; omega
        · show (y 1).val = 0 + (y 1).val; omega
        · show (y 2).val = 0 + (y 2).val; omega)]
      unfold sumsAt sumsNew
      rw [if_pos (by omega), show slabOf y = ⟨n, hlt⟩ from Fin.ext hy]
      refine congrFun (slabNew_congr _ _ _ _ _ _ _ _ _ fun z hz => ?_) _
      rw [if_neg (by rw [hz]; exact Nat.lt_irrefl _)]
    · rw [View.read_writes_cons_unit_of_not_mem (heq := k0_off3_eq ⟨n, hlt⟩) (a := 0) (ha := by
        show (y 0).val < n ∨ n + 1 ≤ (y 0).val
        omega), ih]
      unfold sumsAt
      by_cases h : (y 0).val < n
      · rw [if_pos h, if_pos (by omega)]
      · rw [if_neg h, if_neg (by omega)]

/-- After the loop the running sums are `sumsNew`. -/
theorem read_loop (G : BufTy.Contents (Elt F) arg8.view.ty) :
    arg8.view.read (Elt F) (arg8.view.writes (Elt F) G (pb_k0_t1 (F := F) 𝒱 c bd i arg2 harg2 arg3 harg3 arg4 harg4 arg5 harg5 arg6 harg6 arg7 harg7 arg8 harg8 arg1 v0 v11 X2 X3 X4 G k0_t1_loop.trips))
      = sumsNew arg1 v0 v11 (arg2.view.read (Elt F) X2) (arg3.view.read (Elt F) X3) (arg4.view.read (Elt F) X4)
          (arg8.view.read (Elt F) G) := by
  refine (read_pb 𝒱 c bd i arg2 harg2 arg3 harg3 arg4 harg4 arg5 harg5 arg6 harg6 arg7 harg7 arg8 harg8 arg1 v0 v11 X2 X3 X4 G _ (Nat.le_refl _)).trans ?_
  funext y
  unfold sumsAt
  rw [if_pos (by rw [trips_eq]; exact (y 0).isLt)]

end Cert.KernelIdeal.Own

end
-- ==== Proof.KernelIdeal.Body.lean ====
/- The kernel's body at one grid point, on any staging buffers: what it leaves in the running sums and, at the last block of
   columns, in the output block. -/
module

public import proofs.«01_k».proof.Proof.KernelIdeal.Trip
public import proofs.«01_k».proof.Proof.Gen.KernelIdeal.Points
public import Idealize.ShloMosaic.Lib.Pipeline.FrameBody
public import Idealize.ShloMosaic.Lib.Ring
public import Idealize.ShloMosaic.Lib.VecWindow
public import Idealize.ShloMosaic.Lib.Tactic

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄" => MT nD τ sig Unit (Elt F) ℕ (UR sig nD τ) ℕ

/-! ## The output block -/

/-- The index of slab `r` of the running sums at a place of a slab. -/
def slabIdx (r : Fin 14) (j : S1x1024x256.Idx) : S14x1024x256.Idx := fun
  | ⟨0, _⟩ => ⟨r.val, r.isLt⟩
  | ⟨1, _⟩ => ⟨(j 1).val, (j 1).isLt⟩
  | ⟨2, _⟩ => ⟨(j 2).val, (j 2).isLt⟩

/-- The slab an output column belongs to. -/
def colSlab (y : S1024x3584.Idx) : Fin 14 := ⟨(y 1).val / 256, by have h : (y 1).val < 3584 := (y 1).isLt; omega⟩

/-- The place of an output index within its slab. -/
def colPlace (y : S1024x3584.Idx) : S1024x256.Idx := fun
  | ⟨0, _⟩ => ⟨(y 0).val, (y 0).isLt⟩
  | ⟨1, _⟩ => ⟨(y 1).val % 256, Nat.mod_lt _ (by decide)⟩

/-- The output block written from running sums `s`: the 14 slabs side by side, rounded. -/
def outOf (s : Vec F S14x1024x256 .f32) : Vec F S1024x3584 .bf16 :=
  fun y => k0_pay5 (fun j => s (slabIdx (colSlab y) j)) (colPlace y)

/-- A store of one rounded slab `r` at columns `256 r ..` is a piece of `outOf`. -/
theorem piece_outOf (s : Vec F S14x1024x256 .f32) (r : Fin 14) {off3 : Fin 3 → ℕ} {off2 : Fin 2 → ℕ}
    (h3 : off3 = ![r.val, 0, 0]) (h2 : off2 = ![0, 256 * r.val])
    (inb3 : ∀ a, off3 a + S1x1024x256.size a ≤ S14x1024x256.size a) (inb2 : ∀ a, off2 a + S1024x256.size a ≤ S1024x3584.size a)
    (x : (Rect.unit (s := S1024x3584) off2 S1024x256.size inb2).shape.Idx) :
    k0_pay5 (fun j => s ((Rect.unit (s := S14x1024x256) off3 S1x1024x256.size inb3).emb j)) x
      = outOf s ((Rect.unit (s := S1024x3584) off2 S1024x256.size inb2).emb x) := by
  subst h3; subst h2
  have hx1 : (x 1).val < 256 := (x 1).isLt
  unfold outOf
  have hc : colSlab ((Rect.unit (s := S1024x3584) ![0, 256 * r.val] S1024x256.size inb2).emb x) = r := Fin.ext (by
    show (256 * r.val + 1 * (x 1).val) / 256 = r.val
    omega)
  have hp : colPlace ((Rect.unit (s := S1024x3584) ![0, 256 * r.val] S1024x256.size inb2).emb x) = x := by
    funext a
    fin_cases a
    · exact Fin.ext (show 0 + 1 * (x 0).val = (x 0).val by omega)
    · exact Fin.ext (show (256 * r.val + 1 * (x 1).val) % 256 = (x 1).val by omega)
  rw [hc, hp]
  refine congrArg (fun w => k0_pay5 w x) (funext fun j => congrArg s ?_)
  have hj : (j 0).val < 1 := (j 0).isLt
  funext a
  fin_cases a
  · exact Fin.ext (show r.val + 1 * (j 0).val = r.val by omega)
  · exact Fin.ext (show 0 + 1 * (j 1).val = (j 1).val by omega)
  · exact Fin.ext (show 0 + 1 * (j 2).val = (j 2).val by omega)

/-- The same for a slab loaded from a buffer whose contents read as `s`. -/
theorem piece_read (arg8 : Memref sig .tc .vmem S14x1024x256 .f32) {s : Vec F S14x1024x256 .f32} (f : BufTy.Contents (Elt F) arg8.view.ty)
    (hf : arg8.view.read (Elt F) f = s) (r : Fin 14) {off3 : Fin 3 → ℕ} {off2 : Fin 2 → ℕ}
    (h3 : off3 = ![r.val, 0, 0]) (h2 : off2 = ![0, 256 * r.val])
    (inb3 : ∀ a, off3 a + S1x1024x256.size a ≤ S14x1024x256.size a) (inb2 : ∀ a, off2 a + S1024x256.size a ≤ S1024x3584.size a)
    (x : (Rect.unit (s := S1024x3584) off2 S1024x256.size inb2).shape.Idx) :
    k0_pay5 (View.readAt (Elt F) arg8.view (Rect.unit (s := S14x1024x256) off3 S1x1024x256.size inb3).toLoadRect f) x
      = outOf s ((Rect.unit (s := S1024x3584) off2 S1024x256.size inb2).emb x) := by
  subst hf
  exact piece_outOf _ r h3 h2 inb3 inb2 x

/-! ## The body -/

/-- Whether a point is in the last block of columns. -/
abbrev isLast (i : grid0.Coords) : Prop := k0_cond1 i = 1#1

/-- The running sums after the body, from the input blocks and what it found in them. -/
abbrev sumsAfter (i : grid0.Coords) (x0 : Vec F S1x3584 .i32) (x1 : Vec F S1024x512 .bf16) (x2 : Vec F S1792x512 .i8)
    (x3 : Vec F S28x512 .bf16) (x4 : Vec F S14x512 .i8) (xs : Vec F S14x1024x256 .f32) : Vec F S14x1024x256 .f32 :=
  sumsNew (BitVec.ofNat 32 (i 1).val) x4 x3 x0 x1 x2 xs

variable (c : Dev nD) (i : grid0.Coords)
  (arg2 : Memref sig .tc .vmem S1x3584 .i32) (harg2 : arg2.IsWhole) (arg3 : Memref sig .tc .vmem S1024x512 .bf16) (harg3 : arg3.IsWhole)
  (arg4 : Memref sig .tc .vmem S1792x512 .i8) (harg4 : arg4.IsWhole) (arg5 : Memref sig .tc .vmem S28x512 .bf16) (harg5 : arg5.IsWhole)
  (arg6 : Memref sig .tc .vmem S14x512 .i8) (harg6 : arg6.IsWhole) (arg7 : Memref sig .tc .vmem S1024x3584 .bf16) (harg7 : arg7.IsWhole)
  (arg8 : Memref sig .tc .vmem S14x1024x256 .f32) (harg8 : arg8.IsWhole)
  (x0 : Vec F S1x3584 .i32) (x1 : Vec F S1024x512 .bf16) (x2 : Vec F S1792x512 .i8) (x3 : Vec F S28x512 .bf16) (x4 : Vec F S14x512 .i8)
  (xs : Vec F S14x1024x256 .f32)

/-- The loop's result over whole memrefs, the two tables loaded whole. -/
theorem read_loop_unread(arg1 : BitVec 32) :
    arg8.view.read (Elt F) (arg8.view.writes (Elt F) (harg8.unread xs) (pb_k0_t1 (F := F) Variants.none c none i arg2 harg2 arg3 harg3 arg4 harg4 arg5 harg5 arg6 harg6 arg7 harg7 arg8 harg8 arg1
        (View.readAt (Elt F) arg6.view (Rect.unit (s := S14x512) ![0, 0] S14x512.size inb_S14x512_S14x512_0_0).toLoadRect (harg6.unread x4))
        (View.readAt (Elt F) arg5.view (Rect.unit (s := S28x512) ![0, 0] S28x512.size inb_S28x512_S28x512_0_0).toLoadRect (harg5.unread x3))
        (harg2.unread x0) (harg3.unread x1) (harg4.unread x2) (harg8.unread xs) k0_t1_loop.trips))
      = sumsNew arg1 x4 x3 x0 x1 x2 xs := by
  rw [read_loop, harg2.read_unread, harg3.read_unread, harg4.read_unread, harg8.read_unread, View.readAt_full, View.readAt_full,
    harg5.read_unread, harg6.read_unread]

set_option maxHeartbeats 1000000 in
/-- The body in a block of columns that is not the last: the running sums move on, the output block stays. -/
theorem body_mid (hc : ¬isLast i) (xi : Vec F S1024x3584 .bf16) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare xi ∗ owns (c : Thread nD τ) arg8 fullShare (sumsAfter i x0 x1 x2 x3 x4 xs)) -∗ K ⟨⟩))
      ⊢ wp frame (wpE (defs₀ (F := F)) Variants.none c none) E (cc0_gptq_dgrad i arg2 harg2 arg3 harg3 arg4 harg4 arg5 harg5 arg6 harg6 arg7 harg7 arg8 harg8) K := by
  simp only [cc0_gptq_dgrad_eq_skeleton]; unfold cc0_gptq_dgrad_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact hf5
    iexact H5
  iexists _; isplitr; swap; · iexact HS0
  ipureintro
  exact read_loop_unread c i arg2 harg2 arg3 harg3 arg4 harg4 arg5 harg5 arg6 harg6 arg7 harg7 arg8 harg8 x0 x1 x2 x3 x4 xs _

set_option maxHeartbeats 1000000 in
/-- The body in the last block of columns: the running sums move on and the output block is written from them. -/
theorem body_last (hc : isLast i) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xs
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outOf (sumsAfter i x0 x1 x2 x3 x4 xs)) ∗ owns (c : Thread nD τ) arg8 fullShare (sumsAfter i x0 x1 x2 x3 x4 xs)) -∗ K ⟨⟩))
      ⊢ wp frame (wpE (defs₀ (F := F)) Variants.none c none) E (cc0_gptq_dgrad i arg2 harg2 arg3 harg3 arg4 harg4 arg5 harg5 arg6 harg6 arg7 harg7 arg8 harg8) K := by
  simp only [cc0_gptq_dgrad_eq_skeleton]; unfold cc0_gptq_dgrad_skel
  simp only [k0_part2_eq_skeleton, k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
  obtain rfl := harg2.eq_unread hf0; obtain rfl := harg3.eq_unread hf1; obtain rfl := harg4.eq_unread hf2; obtain rfl := harg5.eq_unread hf3; obtain rfl := harg6.eq_unread hf4; obtain rfl := harg8.eq_unread hfs0
  sl_exec (disch := sl_exact hc)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    have hr := read_loop_unread c i arg2 harg2 arg3 harg3 arg4 harg4 arg5 harg5 arg6 harg6 arg7 harg7 arg8 harg8 x0 x1 x2 x3 x4 xs (BitVec.ofNat 32 (i 1).val)
    funext y
    refine View.read_writes_apply_of_pieces _ _ (outOf (sumsAfter i x0 x1 x2 x3 x4 xs)) _ ?_ y
      (View.cover_of_tiledL (s := S1024x3584) _ S1024x256.size (by sl_kernel_rfl) y)
    refine List.forall_mem_cons.mpr ⟨piece_read arg8 _ hr 13 rfl rfl inb_S14x1024x256_S1x1024x256_13_0_0 inb_S1024x3584_S1024x256_0_3328, ?_⟩
    refine List.forall_mem_cons.mpr ⟨piece_read arg8 _ hr 12 rfl rfl inb_S14x1024x256_S1x1024x256_12_0_0 inb_S1024x3584_S1024x256_0_3072, ?_⟩
    refine List.forall_mem_cons.mpr ⟨piece_read arg8 _ hr 11 rfl rfl inb_S14x1024x256_S1x1024x256_11_0_0 inb_S1024x3584_S1024x256_0_2816, ?_⟩
    refine List.forall_mem_cons.mpr ⟨piece_read arg8 _ hr 10 rfl rfl inb_S14x1024x256_S1x1024x256_10_0_0 inb_S1024x3584_S1024x256_0_2560, ?_⟩
    refine List.forall_mem_cons.mpr ⟨piece_read arg8 _ hr 9 rfl rfl inb_S14x1024x256_S1x1024x256_9_0_0 inb_S1024x3584_S1024x256_0_2304, ?_⟩
    refine List.forall_mem_cons.mpr ⟨piece_read arg8 _ hr 8 rfl rfl inb_S14x1024x256_S1x1024x256_8_0_0 inb_S1024x3584_S1024x256_0_2048, ?_⟩
    refine List.forall_mem_cons.mpr ⟨piece_read arg8 _ hr 7 rfl rfl inb_S14x1024x256_S1x1024x256_7_0_0 inb_S1024x3584_S1024x256_0_1792, ?_⟩
    refine List.forall_mem_cons.mpr ⟨piece_read arg8 _ hr 6 rfl rfl inb_S14x1024x256_S1x1024x256_6_0_0 inb_S1024x3584_S1024x256_0_1536, ?_⟩
    refine List.forall_mem_cons.mpr ⟨piece_read arg8 _ hr 5 rfl rfl inb_S14x1024x256_S1x1024x256_5_0_0 inb_S1024x3584_S1024x256_0_1280, ?_⟩
    refine List.forall_mem_cons.mpr ⟨piece_read arg8 _ hr 4 rfl rfl inb_S14x1024x256_S1x1024x256_4_0_0 inb_S1024x3584_S1024x256_0_1024, ?_⟩
    refine List.forall_mem_cons.mpr ⟨piece_read arg8 _ hr 3 rfl rfl inb_S14x1024x256_S1x1024x256_3_0_0 inb_S1024x3584_S1024x256_0_768, ?_⟩
    refine List.forall_mem_cons.mpr ⟨piece_read arg8 _ hr 2 rfl rfl inb_S14x1024x256_S1x1024x256_2_0_0 inb_S1024x3584_S1024x256_0_512, ?_⟩
    refine List.forall_mem_cons.mpr ⟨piece_read arg8 _ hr 1 rfl rfl inb_S14x1024x256_S1x1024x256_1_0_0 inb_S1024x3584_S1024x256_0_256, ?_⟩
    refine List.forall_mem_cons.mpr ⟨piece_read arg8 _ hr 0 rfl rfl inb_S14x1024x256_S1x1024x256_0_0_0 inb_S1024x3584_S1024x256_0_0, ?_⟩
    exact fun _ h => absurd h List.not_mem_nil
  iexists _; isplitr; swap; · iexact HS0
  ipureintro
  exact read_loop_unread c i arg2 harg2 arg3 harg3 arg4 harg4 arg5 harg5 arg6 harg6 arg7 harg7 arg8 harg8 x0 x1 x2 x3 x4 xs _

end Cert.KernelIdeal.Own

end
-- ==== Proof.KernelIdeal.Deq.lean ====
/- What one turn of the kernel's loop computes over the extended reals: for the 256 output rows of a slab, the products of
   the activations with the rows' weights, summed over the 512 columns of the point's blocks. The kernel puts the two codes
   of a byte into the mantissas of two bf16 words with a fixed exponent, so that the word read as a float is 128 plus the
   code; and it picks zero points and scales with one-hot products. -/
module

public import proofs.«01_k».proof.Proof.Spec
public import proofs.«01_k».proof.Proof.KernelIdeal.Body
public import Idealize.ShloMosaic.Lib.BitcastPair

@[expose] public section

set_option maxRecDepth 16384

noncomputable section

namespace Cert.KernelIdeal.Own

open Idealize.ShloMosaic Idealize.ShloMosaic.TcCoe Idealize.ShloMosaic.Tactic
open Cert.KernelIdeal.Gen Cert.Spec

/-! ## The word that holds a code -/

/-- The 32-bit word the kernel builds from a byte. -/
def pairWord (q : BitVec 8) : BitVec 32 :=
  IntOp.ori (IntOp.ori (IntOp.andi (BitVec.setWidth 32 q) 15#32)
    (IntOp.shli ArithUnit.vector (IntOp.andi (BitVec.setWidth 32 q) 240#32) 12#32)) 1124090624#32

/-- Its low half is the bf16 word of 128 with the low code in the last places of the mantissa, -/
theorem pairWord_low (q : BitVec 8) :
    (pairWord q).extractLsb' (16 * 0) 16 = BitVec.ofNat 16 (17152 + q.toNat % 16) := by
  revert q; unfold pairWord; decide +kernel

/-- and its high half is the same word with the high code. -/
theorem pairWord_high (q : BitVec 8) :
    (pairWord q).extractLsb' (16 * 1) 16 = BitVec.ofNat 16 (17152 + q.toNat / 16) := by
  revert q; unfold pairWord; decide +kernel

/-- The half that belongs to output row `j`. -/
theorem pairWord_code (q : BitVec 8) (j : ℕ) :
    (pairWord q).extractLsb' (16 * (j % 2)) 16 = BitVec.ofNat 16 (17152 + code j q) := by
  unfold code
  rcases Nat.mod_two_eq_zero_or_one j with h | h
  · rw [h, if_pos rfl]; exact pairWord_low q
  · rw [h, if_neg (by decide)]; exact pairWord_high q

theorem code_lt (j : ℕ) (q : BitVec 8) : code j q < 16 := by
  unfold code
  have := q.isLt
  split <;> omega

/-- Such a word read as a float is 128 plus the code. -/
theorem ofBits_code (n : ℕ) (h : n < 16) :
    Ideal.ofBits .bf16 (BitVec.ofNat 16 (17152 + n)) = (((128 + (n : ℝ)) : ℝ) : EReal) := by
  have key : ∀ x y : ℝ, x = y → (x : EReal) = (y : EReal) := fun x y e => congrArg _ e
  interval_cases n <;> simp [Ideal.ofBits, Ideal.ieee] <;> (try apply key) <;> norm_num

/-- So taking 128 away leaves the code. -/
theorem code_val (n : ℕ) (h : n < 16) :
    Ideal.ofBits .bf16 (BitVec.ofNat 16 (17152 + n)) - Ideal.ofBits .bf16 17152#16 = nat n := by
  have h0 : Ideal.ofBits .bf16 17152#16 = ((128 : ℝ) : EReal) := by
    have := ofBits_code 0 (by decide)
    simpa using this
  rw [ofBits_code n h, h0, ← EReal.coe_sub]
  unfold nat
  congr 1
  ring

/-- The words of a block of bytes, read as a block of 16-bit words of twice the rows. -/
theorem words_apply (v : IVec S128x512 32) (hb : S128x512.Bitcasts 32 S256x512 16) (a : Fin 256) (n : Fin 512) :
    bitcast S256x512 16 v hb (ix2 a n) = (v (ix2 ⟨a.val / 2, by omega⟩ n)).extractLsb' (16 * (a.val % 2)) 16 := by
  have hrow : S256x512.row (ix2 a n) = a.val := rfl
  rw [bitcast_32_16]
  have hi : ∀ hp, hb.srcIdx (ix2 a n) (S256x512.row (ix2 a n) / 2) hp
      = (ix2 (⟨a.val / 2, by omega⟩ : Fin 128) n : (⟨2, ![128, 512]⟩ : Shape).Idx) := by
    intro hp
    funext d
    apply Fin.ext
    match d with
    | ⟨0, _⟩ => exact Shape.Bitcasts.srcIdx_row hb _ _ hp _ rfl
    | ⟨1, _⟩ => exact Shape.Bitcasts.srcIdx_other hb _ _ hp _ (fun e => absurd (show 1 + 2 = 2 from e) (by decide))
  rw [hi]
  rfl

/-! ## Zero points and scales -/

/-- The table of zero points the kernel makes from a block, padded by zeros to 32 rows. -/
theorem zeros_apply (v0 : Vec Ideal S14x512 .i8) (a : Fin 32) (n : Fin 512) :
    k0_pay2 v0 (ix2 a n) = zero v0 a.val n := by
  unfold k0_pay2 k0_pay1
  pointwise
  unfold zero
  by_cases h : a.val < 14
  · rw [dif_pos (by omega), dif_pos h, dif_pos h, sitofp_small _ _ (by rw [low_half]; omega), low_half]
  · by_cases h' : a.val < 28
    · rw [dif_pos h', dif_neg h, dif_neg h, dif_pos h', sitofp_small _ _ (by rw [high_half]; omega), high_half]
    · rw [dif_neg h', dif_neg h, dif_neg h']

/-- The table of scales, padded likewise. -/
theorem scales_apply (v11 : Vec Ideal S28x512 .bf16) (a : Fin 32) (n : Fin 512) :
    k0_pay3 v11 (ix2 a n) = scale v11 a.val n := by
  unfold k0_pay3 k0_pay1
  pointwise
  rfl

/-! ## A turn of the loop -/

/-- The product of a turn, its tables given, at a row of the activations and a row of the slab. -/
theorem product_apply (tz ts : FVec Ideal S32x512 .bf16) (g : Vec Ideal S1x256 .i32) (q : Vec Ideal S128x512 .i8)
    (y : Vec Ideal S1024x512 .bf16) (r : Fin 1024) (a : Fin 256) (hg : (g (ix2 0 a)).toNat < 28) :
    k0_pay7 tz ts g q y (ix2 r a)
      = ∑ n : Fin 512, y (ix2 r n) * ((nat (code a.val (q (ix2 ⟨a.val / 2, by omega⟩ n)))
          - tz (ix2 ⟨(g (ix2 0 a)).toNat, by omega⟩ n)) * ts (ix2 ⟨(g (ix2 0 a)).toNat, by omega⟩ n)) := by
  unfold k0_pay7
  pointwise
  refine Finset.sum_congr rfl fun n _ => ?_
  rw [pick _ hg (fun x => tz (ix2 x n)), pick _ hg (fun x => ts (ix2 x n)), words_apply]
  have hw := pairWord_code (q (ix2 ⟨a.val / 2, by omega⟩ n)) a.val
  have hv := code_val _ (code_lt a.val (q (ix2 ⟨a.val / 2, by omega⟩ n)))
  rw [← hw] at hv
  exact congrArg (fun w => y (ix2 r n) * ((w - tz (ix2 ⟨(g (ix2 0 a)).toNat, by omega⟩ n)) * ts (ix2 ⟨(g (ix2 0 a)).toNat, by omega⟩ n))) hv

theorem trip_lt (k : Fin k0_t1_loop.trips) : k.val < 14 := trips_eq ▸ k.isLt

/-- The output row of column `a` of slab `k`. -/
def rowOf (k : Fin k0_t1_loop.trips) (a : Fin 256) : Fin 3584 :=
  ⟨256 * k.val + a.val, by have := trip_lt k; omega⟩

variable (x0 : Vec Ideal S1x3584 .i32) (x1 : Vec Ideal S1024x512 .bf16) (x2 : Vec Ideal S1792x512 .i8)
  (x3 : Vec Ideal S28x512 .bf16) (x4 : Vec Ideal S14x512 .i8)

/-- What a turn adds at a row of the activations and an output row: the row's product with the weights of the output row,
    over the 512 columns of the point. -/
def part (r : Fin 1024) (j : Fin 3584) : EReal :=
  ∑ n : Fin 512, x1 (ix2 r n) * weight x2 x4 x3 (x0 (ix2 0 j)).toNat j n

theorem slabProd_apply (k : Fin k0_t1_loop.trips) (r : Fin 1024) (a : Fin 256)
    (hg : (x0 (ix2 0 (rowOf k a))).toNat < 28) :
    slabProd x4 x3 x0 x1 x2 k (ix2 r a) = part x0 x1 x2 x3 x4 r (rowOf k a) := by
  have hk : k.val < 14 := trip_lt k
  have e0 : ∀ b : Fin 256, (Rect.unit (s := S1x3584) (k0_off1 k) S1x256.size (k0_off1_inb k)).emb (ix2 (0 : Fin 1) b)
      = (ix2 (0 : Fin 1) (rowOf k b) : (⟨2, ![1, 3584]⟩ : Shape).Idx) := by
    intro b; funext d; apply Fin.ext
    show k0_off1 k d + 1 * ((ix2 (0 : Fin 1) b : S1x256.Idx) d).val = _
    rw [k0_off1_eq]
    match d with
    | ⟨0, _⟩ => rfl
    | ⟨1, _⟩ => show 256 * k.val + 1 * b.val = 256 * k.val + b.val; omega
  have e2 : ∀ (b : Fin 128) (n : Fin 512), (Rect.unit (s := S1792x512) (k0_off2 k) S128x512.size (k0_off2_inb k)).emb (ix2 b n)
      = (ix2 (⟨128 * k.val + b.val, by omega⟩ : Fin 1792) n : (⟨2, ![1792, 512]⟩ : Shape).Idx) := by
    intro b n; funext d; apply Fin.ext
    show k0_off2 k d + 1 * ((ix2 b n : S128x512.Idx) d).val = _
    rw [k0_off2_eq]
    match d with
    | ⟨0, _⟩ => show 128 * k.val + 1 * b.val = 128 * k.val + b.val; omega
    | ⟨1, _⟩ => show 0 + 1 * n.val = n.val; omega
  have e1 : ∀ (b : Fin 1024) (n : Fin 512), (Rect.unit (s := S1024x512) ![0, 0] S1024x512.size inb_S1024x512_S1024x512_0_0).emb (ix2 b n)
      = (ix2 b n : (⟨2, ![1024, 512]⟩ : Shape).Idx) := by
    intro b n; funext d; apply Fin.ext
    match d with
    | ⟨0, _⟩ => show 0 + 1 * b.val = b.val; omega
    | ⟨1, _⟩ => show 0 + 1 * n.val = n.val; omega
  unfold slabProd
  rw [product_apply _ _ _ _ _ r a (by rw [e0]; exact hg)]
  unfold part weight
  refine Finset.sum_congr rfl fun n _ => ?_
  rw [zeros_apply, scales_apply, e1, e2]
  dsimp only
  rw [e0]
  have hj : (⟨128 * k.val + a.val / 2, by omega⟩ : Fin 1792) = ⟨(rowOf k a).val / 2, by have := (rowOf k a).isLt; omega⟩ :=
    Fin.ext (by show 128 * k.val + a.val / 2 = (256 * k.val + a.val) / 2; omega)
  have hc : ∀ w, code a.val w = code (rowOf k a).val w := by
    intro w
    have : a.val % 2 = (rowOf k a).val % 2 := by show _ = (256 * k.val + a.val) % 2; omega
    unfold code; rw [this]
  rw [← hj, hc]

end Cert.KernelIdeal.Own

end
-- ==== Proof.KernelIdeal.Frame.lean ====
/- The kernel's launch: the proof data of its pipeline over the 74 points (2 blocks of rows by 37 blocks of columns), the
   body's obligation at each point, and the frame: every execution ends, with the arguments unchanged and every semaphore at
   zero. -/
module

public import proofs.«01_k».proof.Proof.KernelIdeal.Body
public import proofs.«01_k».proof.Proof.Gen.KernelIdeal.Launch
public import Idealize.ShloMosaic.Lib.Pipeline.FrameSuffix
public import Idealize.ShloMosaic.Lib.WordCmp
public import Idealize.ShloMosaic.Lib.Claim

@[expose] public section

set_option maxRecDepth 16384

noncomputable section

namespace Cert.KernelIdeal.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- A point's block of rows. -/
theorem row_of (t : Fin cfg0.N) : (grid0.coords t 0).val = t.val / 37 := by
  have ht : t.val < 74 := Nat.lt_of_lt_of_eq t.isLt N_0
  have e0 : (grid0.coords t 0).val = t.val / 37 % 2 := Pipeline.Grid.coords_val t 0 (by decide) rfl
  omega

/-- A point's block of columns. -/
theorem col_of (t : Fin cfg0.N) : (grid0.coords t 1).val = t.val % 37 := by
  have e1 : (grid0.coords t 1).val = t.val / 1 % 37 := Pipeline.Grid.coords_val t 1 (by decide) rfl
  rwa [Nat.div_one] at e1

/-- The last block of columns is the 37th. -/
theorem isLast_iff : ∀ t : Fin cfg0.N, isLast (grid0.coords t) ↔ t.val % 37 = 36 :=
  (fun t => by
    have ht : t.val < 74 := Nat.lt_of_lt_of_eq t.isLt N_0
    have e0 : (grid0.coords t 0).val = t.val / 37 % 2 := Pipeline.Grid.coords_val t 0 (by decide) rfl
    have e1 : (grid0.coords t 1).val = t.val / 1 % 37 := Pipeline.Grid.coords_val t 1 (by decide) rfl
    simp only [isLast, k0_cond1, e0, e1]
    word_cmp
   : ∀ t : Fin grid0.N, isLast (grid0.coords t) ↔ t.val % 37 = 36)

/-- No input window is ever idle. -/
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl

/-- The output block is idle, and not written back, except in the last block of columns. -/
theorem idle_5 : ∀ t : Fin cfg0.N, ¬isLast (grid0.coords t) → cfg0.idle 5 (grid0.coords t) = true := by decide +kernel
theorem noFlush_5 : ∀ t : Fin cfg0.N, ¬isLast (grid0.coords t) → (cfg0.win 5).flush t = false := by decide +kernel
theorem live_5 : ∀ t : Fin cfg0.N, isLast (grid0.coords t) → cfg0.idle 5 (grid0.coords t) = false := by decide +kernel

/-! ## The buffers the body is handed -/

abbrev ms_0 (t : Fin cfg0.N) : Memref sig .tc .vmem S1x3584 .i32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S1024x512 .bf16 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S1792x512 .i8 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S28x512 .bf16 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S14x512 .i8 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S1024x3584 .bf16 := win0_5.stage (cfg0.slots t 5)
abbrev hs_5 (t : Fin cfg0.N) : (ms_5 t).IsWhole := hstage0_5 ((cfg0.slots t 5).cast nbuf0_5)
/-- The running sums: a whole buffer of the kernel's own. -/
abbrev scM : Memref sig .tc .vmem S14x1024x256 .f32 := Memref.whole cc0_scratch0

/-- The region's own buffer at some contents, and the generator register at some state. -/
theorem scoped_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The running sums, point by point -/

/-- In the first block of columns the new sums do not depend on what was there. -/
theorem sumsAfter_first (i : grid0.Coords) (hi : (i 1).val = 0) (x0 : Vec F S1x3584 .i32) (x1 : Vec F S1024x512 .bf16)
    (x2 : Vec F S1792x512 .i8) (x3 : Vec F S28x512 .bf16) (x4 : Vec F S14x512 .i8) (xs ys : Vec F S14x1024x256 .f32) :
    sumsAfter i x0 x1 x2 x3 x4 xs = sumsAfter i x0 x1 x2 x3 x4 ys := by
  funext y
  show slabNew _ _ _ _ _ _ _ _ _ = slabNew _ _ _ _ _ _ _ _ _
  unfold slabNew
  rw [hi]
  rfl

/-- The new sums at point `t` from what was there. -/
def stepAt (c : Dev nD) (t : Fin cfg0.N) (xs : Vec F S14x1024x256 .f32) : Vec F S14x1024x256 .f32 :=
  sumsAfter (grid0.coords t) (iblk m c 0 t) (iblk m c 1 t) (iblk m c 2 t) (iblk m c 3 t) (iblk m c 4 t) xs

/-- The sums after point `n`. Before the first point they are anything; the first point does not read them. -/
def sumsOf (c : Dev nD) : (n : ℕ) → n < cfg0.N → Vec F S14x1024x256 .f32
  | 0, h => stepAt m c ⟨0, h⟩ (scM.view.read (Elt F) scM.view.junk)
  | n + 1, h => stepAt m c ⟨n + 1, h⟩ (sumsOf c n (Nat.lt_of_succ_lt h))

/-- At a first block of columns the sums are the step from anything. -/
theorem sumsOf_first (c : Dev nD) (t : Fin cfg0.N) (ht : t.val % 37 = 0) (xs : Vec F S14x1024x256 .f32) :
    sumsOf m c t.val t.isLt = stepAt m c t xs := by
  obtain ⟨n, hn⟩ := t
  cases n with
  | zero => exact sumsAfter_first _ ((col_of _).trans ht) _ _ _ _ _ _ _
  | succ n => exact sumsAfter_first _ ((col_of _).trans ht) _ _ _ _ _ _ _

/-- At any later point they are the step from what the point before left. -/
theorem sumsOf_pos (c : Dev nD) (t : Fin cfg0.N) (hz : t.val ≠ 0) :
    sumsOf m c t.val t.isLt = stepAt m c t (sumsOf m c (t.val - 1) (by omega)) := by
  obtain ⟨n, hn⟩ := t
  cases n with
  | zero => exact absurd rfl hz
  | succ n => rfl

/-- The region's invariant before point `n`: the running sums at what the point before left. -/
def PhiS (c : Dev nD) : (n : ℕ) → n ≤ cfg0.N → sProp 𝕄
  | 0, _ => Pipeline.ΦA spec0 c
  | n + 1, h => iprop(iprop(owns (c : Thread nD τ) scM fullShare (sumsOf m c n h)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (sumsOf m c n hn)) ∗ (∃ r, prngReg c r)) := rfl

theorem PhiS_pos (c : Dev nD) (n : ℕ) (h : n ≤ cfg0.N) (hz : n ≠ 0) :
    PhiS m c n h = iprop(iprop(owns (c : Thread nD τ) scM fullShare (sumsOf m c (n - 1) (by omega))) ∗ (∃ r, prngReg c r)) := by
  cases n with
  | zero => exact absurd rfl hz
  | succ n => rfl

/-- Before any point the running sums are at contents from which the point's step is the one stated. -/
theorem PhiS_open (c : Dev nD) (t : Fin cfg0.N) :
    PhiS m c t.val (Nat.le_of_lt t.isLt)
      ⊢ iprop((∃ d, owns (c : Thread nD τ) scM fullShare d ∗ ⌜stepAt m c t d = sumsOf m c t.val t.isLt⌝) ∗ (∃ r, prngReg c r)) := by
  by_cases hz : t.val = 0
  · rw [PhiS_zero m c _ _ hz, scoped_eq]
    iintro ⟨⟨%d, HS⟩, Hg⟩
    isplitl [HS]
    · iexists d; isplitl [HS]; · iexact HS
      ipureintro; exact (sumsOf_first m c t (by rw [hz]) d).symm
    iexact Hg
  · rw [PhiS_pos m c _ _ hz]
    iintro ⟨HS, Hg⟩
    isplitl [HS]
    · iexists _; isplitl [HS]; · iexact HS
      ipureintro; exact (sumsOf_pos m c t hz).symm
    iexact Hg

/-! ## The pipeline's proof data -/

/-- The arrays as the region finds them; after each point the inputs' buffers at their blocks and the output's at the
    rounded sums; the invariant the running sums'; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outOf (sumsOf m c t.val t.isLt)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outOf (sumsOf m c t.val t.isLt) := by dsimp only [dats]

/-- Each input's buffer holds its block at every point. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- What each input's buffer is left at. -/
theorem leaves_0 (c : Dev nD) (t : Fin cfg0.N) : (dats m 0 c).leavesExact 0 t = owns (c : Thread nD τ) (ms_0 t) fullShare (iblk m c 0 t) := by
  rw [← after_0]
theorem leaves_1 (c : Dev nD) (t : Fin cfg0.N) : (dats m 0 c).leavesExact 1 t = owns (c : Thread nD τ) (ms_1 t) fullShare (iblk m c 1 t) := by
  rw [← after_1]
theorem leaves_2 (c : Dev nD) (t : Fin cfg0.N) : (dats m 0 c).leavesExact 2 t = owns (c : Thread nD τ) (ms_2 t) fullShare (iblk m c 2 t) := by
  rw [← after_2]
theorem leaves_3 (c : Dev nD) (t : Fin cfg0.N) : (dats m 0 c).leavesExact 3 t = owns (c : Thread nD τ) (ms_3 t) fullShare (iblk m c 3 t) := by
  rw [← after_3]
theorem leaves_4 (c : Dev nD) (t : Fin cfg0.N) : (dats m 0 c).leavesExact 4 t = owns (c : Thread nD τ) (ms_4 t) fullShare (iblk m c 4 t) := by
  rw [← after_4]

/-! ## The body's obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4800000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4, PhiS_castSucc m c t]
  by_cases h1 : t.val % 37 = 36
  · have hl : isLast (grid0.coords t) := (isLast_iff t).mpr h1
    rw [show (dats m 0 c).leavesExact 5 t = owns (c : Thread nD τ) (ms_5 t) fullShare ((dats m 0 c).after 5 t) from by
      unfold Dat.leavesExact; rw [live_5 t hl], after_5]
    iintro ⟨HP, Ho, ⟨%d0, H0⟩, ⟨%d1, H1⟩, ⟨%d2, H2⟩, ⟨%d3, H3⟩, ⟨%d4, H4⟩, ⟨%d5, H5⟩⟩
    ihave HP := (PhiS_open m c t) $$ HP
    icases HP with ⟨⟨%ds, HS0, %hs⟩, Hg⟩
    rw [← hs]
    iapply (body_last c (grid0.coords t) _ (hs_0 t) _ (hs_1 t) _ (hs_2 t) _ (hs_3 t) _ (hs_4 t) _ (hs_5 t) _ (Memref.isWhole_whole _) (iblk m c 0 t) (iblk m c 1 t) (iblk m c 2 t) (iblk m c 3 t) (iblk m c 4 t) ds hl Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexact H5
  · have hl : ¬isLast (grid0.coords t) := fun h => h1 ((isLast_iff t).mp h)
    rw [Dat.leavesExact_idle (dats m 0 c) 5 t (idle_5 t hl) (noFlush_5 t hl)]
    iintro ⟨HP, Ho, ⟨%d0, H0⟩, ⟨%d1, H1⟩, ⟨%d2, H2⟩, ⟨%d3, H3⟩, ⟨%d4, H4⟩, ⟨%d5, H5⟩⟩
    ihave HP := (PhiS_open m c t) $$ HP
    icases HP with ⟨⟨%ds, HS0, %hs⟩, Hg⟩
    rw [← hs]
    iapply (body_mid c (grid0.coords t) _ (hs_0 t) _ (hs_1 t) _ (hs_2 t) _ (hs_3 t) _ (hs_4 t) _ (hs_5 t) _ (Memref.isWhole_whole _) (iblk m c 0 t) (iblk m c 1 t) (iblk m c 2 t) (iblk m c 3 t) (iblk m c 4 t) ds hl _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    iintro ⟨H0, H1, H2, H3, H4, H5, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    iexists _; iexact H5

/-- The body table's row at point `t` is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back. -/
theorem hout (c : Dev nD) : (dats m 0 c).Φ (Fin.last cfg0.N) ⊢ Pipeline.ΦA spec0 c := by
  have hN : cfg0.N = 74 := N_0
  rw [show (dats m 0 c).Φ (Fin.last cfg0.N) = PhiS m c cfg0.N (Nat.le_refl _) from rfl, PhiS_pos m c _ _ (by omega), scoped_eq]
  iintro ⟨HS0, Hg⟩
  isplitl [HS0]
  · iexists _; iexact HS0
  iexact Hg

/-! ## The run and the frame -/

-- the run theorem's implicit arguments are found by unifying its conclusion with this one
set_option backward.isDefEq.respectTransparency.types false in
/-- Every execution of the program ends, with every array of the pipeline at what the proof data say, every other buffer at
    what the host lines after the region leave in it, and every semaphore counter at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Own

end
-- ==== Proof.KernelIdeal.Blocks.lean ====
/- The blocks the windows hand the body at a point, as entries of the arguments: point `t` works on the 1024 rows of block
   `t / 37` and the 512 columns of block `t % 37`. -/
module

public import proofs.«01_k».proof.Proof.KernelIdeal.Frame
public import Idealize.ShloMosaic.Lib.ValueIdx
public import Idealize.ShloMosaic.Lib.Pipeline.Value
public import Idealize.ShloMosaic.Lib.Pointwise

@[expose] public section

set_option maxRecDepth 16384

noncomputable section

namespace Cert.KernelIdeal.Own

open Idealize.ShloMosaic Idealize.ShloMosaic.TcCoe Idealize.ShloMosaic.Tactic
open Cert.KernelIdeal.Gen

variable {F : FTy → Type} [FloatOps F]
variable (m : (ℓ : Loc nD τ sig) → Buf (Elt F) ℓ) (c : Dev nD)

/-! ## The arrays the launch finds -/

/-- The groups, as one row. -/
theorem V_main_v0 : V m c main_v0 = shapeCast S1x3584 (m ((c : Thread nD τ).loc main_arg4)) shapeCasts_S3584_S1x3584 := by
  unfold_abbrev_sides
  simp only [hostOps0, List.flatten_cons, List.flatten_nil, List.append_nil, StableHlo.after_cons, StableHlo.after_nil]
  after_results_steps
  rfl

/-- The activations, without their unit axis. -/
theorem V_main_v1 : V m c main_v1
    = shapeCast S2048x18944 (m ((c : Thread nD τ).loc main_arg0)) shapeCasts_S2048x1x18944_S2048x18944 := by
  unfold_abbrev_sides
  simp only [hostOps0, List.flatten_cons, List.flatten_nil, List.append_nil, StableHlo.after_cons, StableHlo.after_nil]
  after_results_steps
  rfl

/-- The groups' row at a column, -/
theorem row_apply {α : Type} (x : S3584.Idx → α) (j : Fin 3584) :
    shapeCast S1x3584 x shapeCasts_S3584_S1x3584 (ix2 0 j) = x (ix1 j) :=
  shapeCast_apply x _ _ _ (by
    rw [Shape.rowMajor_val_one, Shape.rowMajor_val_two]
    show j.val = 0 * 3584 + j.val
    omega)

/-- and the activations without their unit axis at a row and a column. -/
theorem squeeze_apply {α : Type} (x : S2048x1x18944.Idx → α) (b : Fin 2048) (n : Fin 18944) :
    shapeCast S2048x18944 x shapeCasts_S2048x1x18944_S2048x18944 (ix2 b n) = x (ix3 b 0 n) :=
  shapeCast_apply x _ _ _ (by
    rw [Shape.rowMajor_val_three, Shape.rowMajor_val_two]
    show (b.val * 1 + 0) * 18944 + n.val = b.val * 18944 + n.val
    omega)

/-! ## The block each window is at -/

theorem index_0 : ∀ t : Fin cfg0.N, win0_0.index t (0 : Fin 2) = 0 ∧ win0_0.index t (1 : Fin 2) = 0 :=
  (by decide +kernel : ∀ t : Fin grid0.N, _)
theorem index_1 : ∀ t : Fin cfg0.N, win0_1.index t (0 : Fin 2) = t.val / 37 ∧ win0_1.index t (1 : Fin 2) = t.val % 37 :=
  (by decide +kernel : ∀ t : Fin grid0.N, _)
theorem index_2 : ∀ t : Fin cfg0.N, win0_2.index t (0 : Fin 2) = 0 ∧ win0_2.index t (1 : Fin 2) = t.val % 37 :=
  (by decide +kernel : ∀ t : Fin grid0.N, _)
theorem index_3 : ∀ t : Fin cfg0.N, win0_3.index t (0 : Fin 2) = 0 ∧ win0_3.index t (1 : Fin 2) = t.val % 37 :=
  (by decide +kernel : ∀ t : Fin grid0.N, _)
theorem index_4 : ∀ t : Fin cfg0.N, win0_4.index t (0 : Fin 2) = 0 ∧ win0_4.index t (1 : Fin 2) = t.val % 37 :=
  (by decide +kernel : ∀ t : Fin grid0.N, _)
theorem index_5 : ∀ t : Fin cfg0.N, win0_5.index t (0 : Fin 2) = t.val / 37 ∧ win0_5.index t (1 : Fin 2) = 0 :=
  (by decide +kernel : ∀ t : Fin grid0.N, _)

/-- A point's column `n`, in the whole arrays. -/
def colAt (t : Fin cfg0.N) (n : Fin 512) : Fin 18944 := ⟨512 * (t.val % 37) + n.val, by omega⟩

/-- A point's row `r`, in the whole arrays. -/
def rowAt (t : Fin cfg0.N) (r : Fin 1024) : Fin 2048 :=
  ⟨1024 * (t.val / 37) + r.val, by have ht : t.val < 74 := Nat.lt_of_lt_of_eq t.isLt N_0; omega⟩

variable (t : Fin cfg0.N)

/-! ## The blocks -/

theorem block_groups (j : Fin 3584) :
    (iblk m c 0 t : Vec F S1x3584 .i32) (ix2 0 j) = m ((c : Thread nD τ).loc main_arg4) (ix1 j) := by
  obtain ⟨e0, e1⟩ := index_0 t
  show V m c main_v0 (((cfg0.win 0).blk t).view.emb (ix2 (0 : Fin 1) j : S1x3584.Idx)) = _
  have he : ((cfg0.win 0).blk t).view.emb (ix2 (0 : Fin 1) j : S1x3584.Idx) = (ix2 (0 : Fin 1) j : S1x3584.Idx) := by
    funext a; apply Fin.ext
    match a with
    | ⟨0, _⟩ => show win0_0.index t (0 : Fin 2) * 1 + 1 * 0 = 0; omega
    | ⟨1, _⟩ => show win0_0.index t (1 : Fin 2) * 3584 + 1 * j.val = j.val; omega
  rw [he, V_main_v0]
  exact row_apply _ _

theorem block_rows (r : Fin 1024) (n : Fin 512) :
    (iblk m c 1 t : Vec F S1024x512 .bf16) (ix2 r n) = m ((c : Thread nD τ).loc main_arg0) (ix3 (rowAt t r) 0 (colAt t n)) := by
  obtain ⟨e0, e1⟩ := index_1 t
  show V m c main_v1 (((cfg0.win 1).blk t).view.emb (ix2 r n : S1024x512.Idx)) = _
  have he : ((cfg0.win 1).blk t).view.emb (ix2 r n : S1024x512.Idx) = (ix2 (rowAt t r) (colAt t n) : S2048x18944.Idx) := by
    funext a; apply Fin.ext
    match a with
    | ⟨0, _⟩ => show win0_1.index t (0 : Fin 2) * 1024 + 1 * r.val = 1024 * (t.val / 37) + r.val; omega
    | ⟨1, _⟩ => show win0_1.index t (1 : Fin 2) * 512 + 1 * n.val = 512 * (t.val % 37) + n.val; omega
  rw [he, V_main_v1]
  exact squeeze_apply _ _ _

theorem block_codes (i : Fin 1792) (n : Fin 512) :
    (iblk m c 2 t : Vec F S1792x512 .i8) (ix2 i n) = m ((c : Thread nD τ).loc main_arg1) (ix2 i (colAt t n)) := by
  obtain ⟨e0, e1⟩ := index_2 t
  show V m c main_arg1 (((cfg0.win 2).blk t).view.emb (ix2 i n : S1792x512.Idx)) = _
  have he : ((cfg0.win 2).blk t).view.emb (ix2 i n : S1792x512.Idx) = (ix2 i (colAt t n) : S1792x18944.Idx) := by
    funext a; apply Fin.ext
    match a with
    | ⟨0, _⟩ => show win0_2.index t (0 : Fin 2) * 1792 + 1 * i.val = i.val; omega
    | ⟨1, _⟩ => show win0_2.index t (1 : Fin 2) * 512 + 1 * n.val = 512 * (t.val % 37) + n.val; omega
  rw [he, V_main_arg1]

theorem block_scales (i : Fin 28) (n : Fin 512) :
    (iblk m c 3 t : Vec F S28x512 .bf16) (ix2 i n) = m ((c : Thread nD τ).loc main_arg2) (ix2 i (colAt t n)) := by
  obtain ⟨e0, e1⟩ := index_3 t
  show V m c main_arg2 (((cfg0.win 3).blk t).view.emb (ix2 i n : S28x512.Idx)) = _
  have he : ((cfg0.win 3).blk t).view.emb (ix2 i n : S28x512.Idx) = (ix2 i (colAt t n) : S28x18944.Idx) := by
    funext a; apply Fin.ext
    match a with
    | ⟨0, _⟩ => show win0_3.index t (0 : Fin 2) * 28 + 1 * i.val = i.val; omega
    | ⟨1, _⟩ => show win0_3.index t (1 : Fin 2) * 512 + 1 * n.val = 512 * (t.val % 37) + n.val; omega
  rw [he, V_main_arg2]

theorem block_zeros (i : Fin 14) (n : Fin 512) :
    (iblk m c 4 t : Vec F S14x512 .i8) (ix2 i n) = m ((c : Thread nD τ).loc main_arg3) (ix2 i (colAt t n)) := by
  obtain ⟨e0, e1⟩ := index_4 t
  show V m c main_arg3 (((cfg0.win 4).blk t).view.emb (ix2 i n : S14x512.Idx)) = _
  have he : ((cfg0.win 4).blk t).view.emb (ix2 i n : S14x512.Idx) = (ix2 i (colAt t n) : S14x18944.Idx) := by
    funext a; apply Fin.ext
    match a with
    | ⟨0, _⟩ => show win0_4.index t (0 : Fin 2) * 14 + 1 * i.val = i.val; omega
    | ⟨1, _⟩ => show win0_4.index t (1 : Fin 2) * 512 + 1 * n.val = 512 * (t.val % 37) + n.val; omega
  rw [he, V_main_arg3]

end Cert.KernelIdeal.Own

end
-- ==== Proof.KernelIdeal.Sums.lean ====
/- The running sums after each point, over the extended reals: at a row of the activations and an output row, the products
   with the output row's weights summed over the blocks of columns done so far; so after the last block of columns the sum
   over all 18944 columns. -/
module

public import proofs.«01_k».proof.Proof.KernelIdeal.Deq
public import proofs.«01_k».proof.Proof.KernelIdeal.Blocks

@[expose] public section

set_option maxRecDepth 16384

noncomputable section

namespace Cert.KernelIdeal.Own

open Idealize.ShloMosaic Idealize.ShloMosaic.TcCoe Idealize.ShloMosaic.Tactic
open Cert.KernelIdeal.Gen
open Cert.Spec (weight zero scale sum_blocks)

variable (m : (ℓ : Loc nD τ sig) → Buf (Elt Ideal) ℓ) (c : Dev nD)

/-- The product of a row of the activations with the weight of an output row, at a column, for the arguments launched. -/
def term (b : Fin 2048) (j : Fin 3584) (n : Fin 18944) : EReal :=
  Spec.term (m ((c : Thread nD τ).loc main_arg0)) (m ((c : Thread nD τ).loc main_arg1)) (m ((c : Thread nD τ).loc main_arg3))
    (m ((c : Thread nD τ).loc main_arg2)) (m ((c : Thread nD τ).loc main_arg4)) b j n

/-- The same at a natural number, nothing beyond the last column. -/
def termN (b : Fin 2048) (j : Fin 3584) (x : ℕ) : EReal := if h : x < 18944 then term m c b j ⟨x, h⟩ else 0

/-- The groups of the launch name rows of the tables. -/
def Named : Prop := ∀ j : Fin 3584, ((m ((c : Thread nD τ).loc main_arg4) : S3584.Idx → BitVec 32) (ix1 j)).toNat < 28

/-- What a point adds at a row of its block and an output row. -/
theorem part_at (t : Fin cfg0.N) (r : Fin 1024) (j : Fin 3584) :
    part (iblk m c 0 t) (iblk m c 1 t) (iblk m c 2 t) (iblk m c 3 t) (iblk m c 4 t) r j
      = ∑ n : Fin 512, termN m c (rowAt t r) j (512 * (t.val % 37) + n.val) := by
  unfold part
  refine Finset.sum_congr rfl fun n _ => ?_
  have hx : 512 * (t.val % 37) + n.val < 18944 := (colAt t n).isLt
  unfold termN
  rw [dif_pos hx]
  unfold term Spec.term weight zero scale
  rw [block_rows, block_groups, block_codes]
  simp only [block_scales, block_zeros]
  rfl

/-- The new sums of slab `k` at a place: the product alone in the first block of columns, added to the old elsewhere. -/
theorem sumsNew_apply (w : BitVec 32) (x0 : Vec Ideal S1x3584 .i32) (x1 : Vec Ideal S1024x512 .bf16)
    (x2 : Vec Ideal S1792x512 .i8) (x3 : Vec Ideal S28x512 .bf16) (x4 : Vec Ideal S14x512 .i8)
    (xs : Vec Ideal S14x1024x256 .f32) (k : Fin 14) (r : Fin 1024) (a : Fin 256) :
    sumsNew w x4 x3 x0 x1 x2 xs (ix3 k r a)
      = if w = 0#32 then slabProd x4 x3 x0 x1 x2 (k.cast trips_eq.symm) (ix2 r a)
        else xs (ix3 k r a) + slabProd x4 x3 x0 x1 x2 (k.cast trips_eq.symm) (ix2 r a) := by
  have hs : slabOf (ix3 k r a : S14x1024x256.Idx) = k.cast trips_eq.symm := Fin.ext rfl
  have hi : inSlab (ix3 k r a : S14x1024x256.Idx) = (ix3 (0 : Fin 1) r a : S1x1024x256.Idx) := by
    funext d
    match d with
    | ⟨0, _⟩ => rfl
    | ⟨1, _⟩ => rfl
    | ⟨2, _⟩ => rfl
  have he : (Rect.unit (s := S14x1024x256) (k0_off3 (k.cast trips_eq.symm)) S1x1024x256.size (k0_off3_inb _)).emb (ix3 (0 : Fin 1) r a : S1x1024x256.Idx)
      = (ix3 k r a : S14x1024x256.Idx) := by
    funext d; apply Fin.ext
    show k0_off3 _ d + 1 * ((ix3 (0 : Fin 1) r a : S1x1024x256.Idx) d).val = _
    rw [k0_off3_eq]
    match d with
    | ⟨0, _⟩ => show k.val + 1 * 0 = k.val; omega
    | ⟨1, _⟩ => show 0 + 1 * r.val = r.val; omega
    | ⟨2, _⟩ => show 0 + 1 * a.val = a.val; omega
  show slabNew w x4 x3 x0 x1 x2 xs (slabOf (ix3 k r a : S14x1024x256.Idx)) (inSlab (ix3 k r a : S14x1024x256.Idx)) = _
  rw [hs, hi]
  have e4 : ∀ (v55 v60 : FVec Ideal S1024x256 .f32) (b : BitVec 1),
      k0_pay4 v55 b v60 (ix3 (0 : Fin 1) r a) = Scalar.select b (v55 (ix2 r a)) (v60 (ix2 r a)) := by
    intro v55 v60 b
    unfold k0_pay4
    pointwise
  have e8 : ∀ (v10 v14 : FVec Ideal S32x512 .bf16) (v22 : Vec Ideal S1x256 .i32) (v37 : Vec Ideal S128x512 .i8)
      (v53 : Vec Ideal S1024x512 .bf16) (v58 : Vec Ideal S1x1024x256 .f32),
      k0_pay8 v10 v14 v22 v37 v53 v58 (ix2 r a) = v58 (ix3 (0 : Fin 1) r a) + k0_pay7 v10 v14 v22 v37 v53 (ix2 r a) := by
    intro v10 v14 v22 v37 v53 v58
    unfold k0_pay8
    pointwise
  unfold slabNew
  rw [e4, e8, he]
  by_cases hw : w = 0#32
  · subst hw; rfl
  · rw [if_neg hw]
    have : Scalar.cmpi .eq w 0#32 = 0#1 := by
      show BitVec.ofBool (w == 0#32) = 0#1
      rw [beq_eq_false_iff_ne.mpr hw]; rfl
    rw [this]
    rfl

/-- A point's step at a place. -/
theorem stepAt_apply (h : Named m c) (t : Fin cfg0.N) (xs : Vec Ideal S14x1024x256 .f32) (k : Fin 14) (r : Fin 1024) (a : Fin 256) :
    stepAt m c t xs (ix3 k r a)
      = (if t.val % 37 = 0 then 0 else xs (ix3 k r a))
        + ∑ n : Fin 512, termN m c (rowAt t r) (rowOf (k.cast trips_eq.symm) a) (512 * (t.val % 37) + n.val) := by
  unfold stepAt
  have e := col_of t
  refine (sumsNew_apply _ _ _ _ _ _ _ _ _ _).trans ?_
  rw [slabProd_apply _ _ _ _ _ _ _ _ (by rw [block_groups]; exact h _), part_at, e]
  have hlt : t.val % 37 < 37 := Nat.mod_lt _ (by decide)
  by_cases hz : t.val % 37 = 0
  · rw [if_pos hz, if_pos (by rw [hz]), zero_add]
  · rw [if_neg hz, if_neg]
    intro e'
    have := congrArg BitVec.toNat e'
    rw [BitVec.toNat_ofNat, Nat.mod_eq_of_lt (by omega)] at this
    exact hz this

/-- The sums after a point: the blocks of columns done so far. -/
theorem sumsOf_apply (h : Named m c) (k : Fin 14) (r : Fin 1024) (a : Fin 256) : ∀ (n : ℕ) (t : Fin cfg0.N), t.val = n →
    sumsOf m c t.val t.isLt (ix3 k r a)
      = ∑ q ∈ Finset.range (t.val % 37 + 1), ∑ x : Fin 512, termN m c (rowAt t r) (rowOf (k.cast trips_eq.symm) a) (512 * q + x.val) := by
  intro n
  induction n with
  | zero =>
    intro t ht
    rw [sumsOf_first m c t (by rw [ht]) (fun _ => (0 : EReal)), stepAt_apply m c h, if_pos (by rw [ht]), zero_add, ht]
    simp
  | succ n ih =>
    intro t ht
    by_cases hz : t.val % 37 = 0
    · rw [sumsOf_first m c t hz (fun _ => (0 : EReal)), stepAt_apply m c h, if_pos hz, zero_add, hz]
      simp
    · have hlt : n < cfg0.N := by have := t.isLt; omega
      have hp : ∀ hh, sumsOf m c (t.val - 1) hh = sumsOf m c (⟨n, hlt⟩ : Fin cfg0.N).val hlt := by
        intro hh
        have : t.val - 1 = n := by omega
        subst this; rfl
      rw [sumsOf_pos m c t (by omega), stepAt_apply m c h, if_neg hz, hp, ih ⟨n, hlt⟩ rfl, Finset.sum_range_succ _ (t.val % 37)]
      have h1 : n % 37 + 1 = t.val % 37 := by omega
      have h2 : rowAt ⟨n, hlt⟩ r = rowAt t r := Fin.ext (by
        show 1024 * (n / 37) + r.val = 1024 * (t.val / 37) + r.val
        omega)
      rw [h2]
      dsimp only
      rw [h1]

/-- After the last block of columns: all of them. -/
theorem sumsOf_last (h : Named m c) (t : Fin cfg0.N) (ht : t.val % 37 = 36) (k : Fin 14) (r : Fin 1024) (a : Fin 256) :
    sumsOf m c t.val t.isLt (ix3 k r a)
      = ∑ n : Fin 18944, term m c (rowAt t r) (rowOf (k.cast trips_eq.symm) a) n := by
  rw [sumsOf_apply m c h k r a _ t rfl, ht, sum_blocks]
  refine Finset.sum_congr rfl fun n _ => ?_
  unfold termN
  rw [dif_pos n.isLt]

end Cert.KernelIdeal.Own

end
-- ==== Proof.KernelIdeal.Value.lean ====
/- The array the kernel returns, over the extended reals: at a row of the activations and an output row, the sum over the
   columns of the activations times the output row's weights. The launch writes each of its two blocks of rows back once,
   after the last block of columns; the host then gives the array back its unit axis. -/
module

public import proofs.«01_k».proof.Proof.KernelIdeal.Sums
public import Idealize.ShloMosaic.Lib.Pipeline.Value

@[expose] public section

set_option maxRecDepth 16384

noncomputable section

namespace Cert.KernelIdeal.Own

open Idealize.ShloMosaic Idealize.ShloMosaic.TcCoe Idealize.ShloMosaic.Tactic Idealize.SL.Sem
open Cert.KernelIdeal.Gen

variable (m : (ℓ : Loc nD τ sig) → Buf (Elt Ideal) ℓ) (c : Dev nD)

/-- The result at a row of the activations and an output row, for the arguments launched. -/
def resultAt (b : Fin 2048) (j : Fin 3584) : EReal := ∑ n : Fin 18944, term m c b j n

theorem resultAt_eq (b : Fin 2048) (j : Fin 3584) :
    resultAt m c b j = Spec.result (m ((c : Thread nD τ).loc main_arg0)) (m ((c : Thread nD τ).loc main_arg1))
      (m ((c : Thread nD τ).loc main_arg3)) (m ((c : Thread nD τ).loc main_arg2)) (m ((c : Thread nD τ).loc main_arg4)) b j := by
  unfold resultAt Spec.result term
  rfl

/-- The output block: the running sums of the output row's slab. -/
theorem outOf_apply (s : Vec Ideal S14x1024x256 .f32) (r : Fin 1024) (j : Fin 3584) :
    outOf s (ix2 r j) = s (ix3 (⟨j.val / 256, by omega⟩ : Fin 14) r (⟨j.val % 256, Nat.mod_lt _ (by decide)⟩ : Fin 256)) := by
  have hp : colPlace (ix2 r j : S1024x3584.Idx)
      = (ix2 r (⟨j.val % 256, Nat.mod_lt _ (by decide)⟩ : Fin 256) : S1024x256.Idx) := by
    funext d
    match d with
    | ⟨0, _⟩ => rfl
    | ⟨1, _⟩ => rfl
  have e5 : ∀ (v : Vec Ideal S1x1024x256 .f32) (a : Fin 256), k0_pay5 v (ix2 r a) = v (ix3 (0 : Fin 1) r a) := by
    intro v a
    unfold k0_pay5
    pointwise
  unfold outOf
  rw [hp, e5]
  refine congrArg s ?_
  funext d
  match d with
  | ⟨0, _⟩ => rfl
  | ⟨1, _⟩ => rfl
  | ⟨2, _⟩ => rfl

/-- After the last block of columns the output block is the result at the point's rows. -/
theorem out_apply (h : Named m c) (t : Fin cfg0.N) (ht : t.val % 37 = 36) (r : Fin 1024) (j : Fin 3584) :
    outOf (sumsOf m c t.val t.isLt) (ix2 r j) = resultAt m c (rowAt t r) j := by
  rw [outOf_apply, sumsOf_last m c h t ht]
  have hj : rowOf ((⟨j.val / 256, by omega⟩ : Fin 14).cast trips_eq.symm) ⟨j.val % 256, Nat.mod_lt _ (by decide)⟩ = j :=
    Fin.ext (by show 256 * (j.val / 256) + j.val % 256 = j.val; omega)
  rw [hj]
  rfl

/-- The launch's output array. -/
def outArray : Buf (Elt Ideal) ((c : Thread nD τ).loc main_v2) :=
  fun i : S2048x3584.Idx => resultAt m c ⟨(i 0).val, (i 0).isLt⟩ ⟨(i 1).val, (i 1).isLt⟩

/-- What a point writes back is its block of that array. -/
theorem flushed_eq (h : Named m c) (t : Fin cfg0.N) (hf : (cfg0.win 5).flush t = true) :
    (dats m 0 c).flushed 5 t = ((cfg0.win 5).blk t).view.read (Elt Ideal) (outArray m c) := by
  show (cfg0.win 5).cut (grid0.coords t) ((dats m 0 c).after 5 t) = _
  rw [after_5]
  obtain ⟨e0, e1⟩ := index_5 t
  funext y
  have hb0 : (((cfg0.win 5).blk t).view.emb y 0).val = win0_5.index t (0 : Fin 2) * 1024 + 1 * (y 0).val := rfl
  have hb1 : (((cfg0.win 5).blk t).view.emb y 1).val = win0_5.index t (1 : Fin 2) * 3584 + 1 * (y 1).val := rfl
  have hy0 : (y 0).val < 1024 := (y 0).isLt
  have hy1 : (y 1).val < 3584 := (y 1).isLt
  have hl : (cfg0.win 5).xinj (grid0.coords t) y = (ix2 (⟨(y 0).val, hy0⟩ : Fin 1024) (⟨(y 1).val, hy1⟩ : Fin 3584) : S1024x3584.Idx) := by
    funext a; apply Fin.ext
    match a with
    | ⟨0, _⟩ => rfl
    | ⟨1, _⟩ => rfl
  have hc : ∀ X : Vec Ideal S1024x3584 .bf16, (cfg0.win 5).cut (grid0.coords t) X y = X ((cfg0.win 5).xinj (grid0.coords t) y) :=
    fun _ => rfl
  have hr : ∀ G : Buf (Elt Ideal) ((c : Thread nD τ).loc main_v2),
      ((cfg0.win 5).blk t).view.read (Elt Ideal) G y = G (((cfg0.win 5).blk t).view.emb y) := fun _ => rfl
  have e := out_apply m c h t ((flush0_5 t).mp hf) ⟨(y 0).val, hy0⟩ ⟨(y 1).val, hy1⟩
  have e' : outArray m c (((cfg0.win 5).blk t).view.emb y) = resultAt m c (rowAt t ⟨(y 0).val, hy0⟩) ⟨(y 1).val, hy1⟩ :=
    congrArg₂ (resultAt m c)
      (Fin.ext (show (((cfg0.win 5).blk t).view.emb y 0).val = 1024 * (t.val / 37) + (y 0).val by rw [hb0]; omega))
      (Fin.ext (show (((cfg0.win 5).blk t).view.emb y 1).val = (y 1).val by rw [hb1]; omega))
  exact (hc _).trans ((congrArg _ hl).trans (e.trans (e'.symm.trans (hr _).symm)))

/-- Every index of the array is in a block that is written back. -/
theorem covered (i : S2048x3584.Idx) :
    ∃ t : Fin cfg0.N, (cfg0.win 5).flush t = true ∧ i ∈ ((cfg0.win 5).blk t).view.set := by
  have h0 : (i 0).val < 2048 := (i 0).isLt
  have h1 : (i 1).val < 3584 := (i 1).isLt
  have hN : 37 * ((i 0).val / 1024) + 36 < cfg0.N := Nat.lt_of_lt_of_eq (by omega : _ < 74) N_0.symm
  refine ⟨⟨37 * ((i 0).val / 1024) + 36, hN⟩, (flush0_5 _).mpr (by dsimp only; omega), ?_⟩
  obtain ⟨e0, e1⟩ := index_5 ⟨37 * ((i 0).val / 1024) + 36, hN⟩
  dsimp only at e0
  show i ∈ ((View.whole main_v2).slice (win0_5.rect ⟨37 * ((i 0).val / 1024) + 36, hN⟩)).set
  rw [View.set_slice_whole, Rect.mem_set_unit]
  intro a
  match a with
  | ⟨0, _⟩ =>
    show win0_5.index _ (0 : Fin 2) * 1024 ≤ (i 0).val ∧ (i 0).val < win0_5.index _ (0 : Fin 2) * 1024 + 1024
    omega
  | ⟨1, _⟩ =>
    show win0_5.index _ (1 : Fin 2) * 3584 ≤ (i 1).val ∧ (i 1).val < win0_5.index _ (1 : Fin 2) * 3584 + 3584
    omega

theorem final (h : Named m c) : (dats m 0 c).arrAt 5 cfg0.N = outArray m c :=
  (dats m 0 c).arrAt_eq_of_cover 5 _ (fun t hf => flushed_eq m c h t hf) covered

/-- The array returned. -/
def returned : Buf (Elt Ideal) ((c : Thread nD τ).loc main_v3) :=
  shapeCast S2048x1x3584 (outArray m c) shapeCasts_S2048x3584_S2048x1x3584

theorem W_main_v3 (h : Named m c) :
    Pipeline.afterTail₀ cfgs (dats m) 0 (V0 m) [hostOps1] c main_v3 = returned m c := by
  unfold Pipeline.afterTail₀
  simp only [hostOps1, List.flatten_cons, List.flatten_nil, List.append_nil, StableHlo.after_cons, StableHlo.after_nil]
  after_results_steps
  have e := Pipeline.withArrays_arr spec0 (by decide) c (V0 m c) (fun w => (dats m 0 c).arrAt w cfg0.N) 5
  unfold returned
  rw [← final m c h, ← e]
  rfl

/-- THE RUN: the array returned, and the arguments unchanged. -/
theorem run (h : ∀ c, Named m c) (ρ : Dev nD → PrngReg) :
    θ_run defs (onTc (τ := τ) (main (F := Ideal))) ⟨m, fun _ => 0, ρ⟩ (fun r => ∀ c : Dev nD,
      r.2.mem ((c.tc : Thread nD τ).loc main_v3) = returned m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r hr c =>
    ⟨((hr.1 c).2 main_v3 (Pipeline.mem_restRefs_of main_v3 (by decide) (by decide))).trans (W_main_v3 m c (h c)), hr.2 c⟩)
    (θ_run_and (run_main m ρ) (unchanged m ρ))

/-- An array given a unit axis. -/
theorem unsqueeze_apply {α : Type} (x : S2048x3584.Idx → α) (b : Fin 2048) (j : Fin 3584) :
    shapeCast S2048x1x3584 x shapeCasts_S2048x3584_S2048x1x3584 (ix3 b 0 j) = x (ix2 b j) :=
  shapeCast_apply x _ _ _ (by
    rw [Shape.rowMajor_val_three, Shape.rowMajor_val_two]
    show b.val * 3584 + j.val = (b.val * 1 + 0) * 3584 + j.val
    omega)

/-- The array returned at a row and an output row. -/
theorem returned_apply (b : Fin 2048) (j : Fin 3584) :
    (returned m c : FVec Ideal S2048x1x3584 .bf16) (ix3 b 0 j) = resultAt m c b j := by
  unfold returned
  exact unsqueeze_apply (outArray m c : S2048x3584.Idx → EReal) b j

end Cert.KernelIdeal.Own

end
-- ==== Proof.ReferenceIdeal.Frame.lean ====
/- The reference's frame: every execution ends, with the arguments unchanged and no semaphore counting. -/
module

public import proofs.«01_k».proof.Proof.Gen.ReferenceIdeal.Run
public import Idealize.ShloMosaic.Lib.Quiescent

@[expose] public section

noncomputable section

namespace Cert.ReferenceIdeal.Own

open Cert.ReferenceIdeal Cert.ReferenceIdeal.Gen Idealize.ShloMosaic Idealize.ShloMosaic.TcCoe Idealize.SL.Sem

variable {F : FTy → Type} [FloatOps F]

/-- The arguments end unchanged; the program has no semaphores, so none counts. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun r h => ⟨fun c => (h c).2, sem_eq_zero_of_no_sems (by decide) r.2⟩) (Value.run m ρ)

end Cert.ReferenceIdeal.Own

end
-- ==== Proof.ReferenceIdeal.Value.lean ====
/- The reference's result over the extended reals, at a row of the activations and an output row: the sum over the columns of
   the activations times the output row's weights. The reference makes the even and the odd output rows apart and
   interleaves them; it takes each row's zero points and scales by a row gather at the row's group. -/
module

public import proofs.«01_k».proof.Proof.Spec
public import proofs.«01_k».proof.Proof.Gen.ReferenceIdeal.Run

@[expose] public section

set_option maxRecDepth 16384

noncomputable section

namespace Cert.ReferenceIdeal.Own

open Cert.ReferenceIdeal Cert.ReferenceIdeal.Gen Idealize.ShloMosaic Idealize.ShloMosaic.TcCoe Idealize.ShloMosaic.Tactic
open Cert.Spec

/-! ## The row gather -/

/-- The row gather at `(i, n)`: the table at the row that index `i` names, read signed and clamped to the table, column `n`. -/
theorem rows_apply {α : Type} (x : S28x18944.Idx → α) (idx : IVec S1792x1 32) (i : Fin 1792) (n : Fin 18944) :
    Host.gather gather_S28x18944_S1792x1_S1792x18944_1_0_n_n_0_1_118944 x idx (ix2 i n)
      = x (ix2 (⟨min (idx (ix2 i 0)).toInt.toNat 27, by omega⟩ : Fin 28) n) := by
  unfold Host.gather
  congr 1
  funext a
  refine Fin.ext ?_
  show GatherDims.start _ (ix2 i n) idx a + GatherDims.batchCoord _ (ix2 i n) a + GatherDims.offCoord _ (ix2 i n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S28x18944_S1792x1_S1792x18944_1_0_n_n_0_1_118944.startIndexMap from List.mem_singleton.mpr rfl)]
    have hsi : gather_S28x18944_S1792x1_S1792x18944_1_0_n_n_0_1_118944.siIdx (ix2 i n)
        ⟨List.idxOf (0 : Fin 2) gather_S28x18944_S1792x1_S1792x18944_1_0_n_n_0_1_118944.startIndexMap,
          List.idxOf_lt_length_iff.2 (List.mem_singleton.mpr rfl)⟩ = (ix2 i (0 : Fin 1) : S1792x1.Idx) := by
      funext b; refine Fin.ext ?_
      match b with
      | ⟨0, _⟩ => rfl
      | ⟨1, _⟩ => rfl
    rw [hsi]
    rfl
  · have hs : GatherDims.start gather_S28x18944_S1792x1_S1792x18944_1_0_n_n_0_1_118944 (ix2 i n) idx 1 = 0 := by
      unfold GatherDims.start
      rw [dif_neg (by decide)]
    rw [hs]
    show 0 + 0 + n.val = n.val
    omega

/-! ## The tables and the groups -/

/-- The table of zero points. -/
def zeros (z : IVec S14x18944 8) : FVec Ideal S28x18944 .bf16 :=
  sitofp .bf16 (concatenate S28x18944 0 [⟨S14x18944, (andi (extui 32 z natLt_8_32) (broadcastInDim S14x18944 ![] bcast_S_S14x18944 (constantI S_ 32 15#32)))⟩, ⟨S14x18944, (Host.shrsi (extui 32 z natLt_8_32) (broadcastInDim S14x18944 ![] bcast_S_S14x18944 (constantI S_ 32 4#32)))⟩] concatenates_S14x18944_S14x18944_S28x18944_d0)

theorem zeros_apply (z : IVec S14x18944 8) (g : Fin 28) (n : Fin 18944) : zeros z (ix2 g n) = zero z g.val n := by
  unfold zeros
  pointwise
  unfold zero
  by_cases h : g.val < 14
  · rw [dif_pos h, dif_pos h, sitofp_small _ _ (by rw [low_half]; omega), low_half]
  · rw [dif_neg h, dif_neg h, dif_pos g.isLt, sitofp_small _ _ (by rw [high_half]; omega), high_half]

/-- Indices wrapped as array indices are: negative ones count from the end. -/
def wrapped (g : IVec S1792 32) : IVec S1792x1 32 :=
  broadcastInDim S1792x1 ![0] bcast_S1792_S1792x1_0 (select (cmpi .slt g (broadcastInDim S1792 ![] bcast_S_S1792 (constantI S_ 32 0#32))) (addi g (broadcastInDim S1792 ![] bcast_S_S1792 (constantI S_ 32 28#32))) g)

/-- An index that names a row is kept. -/
theorem wrapped_apply (g : IVec S1792 32) (i : Fin 1792) (h : (g (ix1 i)).toNat < 28) :
    min ((wrapped g (ix2 i 0)).toInt.toNat) 27 = (g (ix1 i)).toNat := by
  unfold wrapped
  pointwise
  have hi : (g (ix1 i)).toInt = ((g (ix1 i)).toNat : ℤ) := BitVec.toInt_eq_toNat_of_lt (by omega)
  have hn : IntOp.cmpi CmpIPredicate.slt (g (ix1 i)) 0#32 = 0#1 := by
    show BitVec.ofBool ((g (ix1 i)).slt 0#32) = 0#1
    rw [show (g (ix1 i)).slt 0#32 = false by
      unfold BitVec.slt
      rw [hi]
      exact decide_eq_false (by simp)]
    rfl
  rw [hn]
  show min (g (ix1 i)).toInt.toNat 27 = _
  rw [hi]
  omega

/-! ## One half of the output rows -/

/-- The even or the odd output rows: the activations against the rows' weights. -/
def half (y : FVec Ideal S2048x1x18944 .bf16) (q : IVec S1792x18944 32) (z : IVec S14x18944 8)
    (s : FVec Ideal S28x18944 .bf16) (g : IVec S1792 32) : FVec Ideal S2048x1x1792 .f32 :=
  Host.dotGeneral dot_S2048x1x18944_S1792x18944_S2048x1x1792_2_1_01_0_n_n none y (mulf (subf (sitofp .bf16 q) (Host.gather gather_S28x18944_S1792x1_S1792x18944_1_0_n_n_0_1_118944 (zeros z) (wrapped g))) (Host.gather gather_S28x18944_S1792x1_S1792x18944_1_0_n_n_0_1_118944 s (wrapped g)))

theorem half_apply (y : FVec Ideal S2048x1x18944 .bf16) (q : IVec S1792x18944 32) (z : IVec S14x18944 8)
    (s : FVec Ideal S28x18944 .bf16) (g : IVec S1792 32) (b : Fin 2048) (i : Fin 1792) (h : (g (ix1 i)).toNat < 28) :
    half y q z s g (ix3 b 0 i)
      = ∑ n : Fin 18944, y (ix3 b 0 n) * ((FloatOps.sitofp (F := Ideal) FTy.bf16 (q (ix2 i n)) - zero z (g (ix1 i)).toNat n)
          * scale s (g (ix1 i)).toNat n) := by
  unfold half
  pointwise
  refine Finset.sum_congr rfl fun n _ => ?_
  have hw := wrapped_apply g i h
  have hr : (⟨min ((wrapped g (ix2 i 0)).toInt.toNat) 27, by omega⟩ : Fin 28) = ⟨(g (ix1 i)).toNat, h⟩ := Fin.ext hw
  rw [rows_apply, rows_apply, hr, zeros_apply]
  unfold scale
  rw [dif_pos h]

/-! ## The result -/

/-- The two halves interleaved: even output rows from one, odd ones from the other. -/
theorem interleave_apply (u v : FVec Ideal S2048x1x1792 .f32) (b : Fin 2048) (j : Fin 3584) :
    (truncf .bf16 (shapeCast S2048x1x3584 (concatenate S2048x1x1792x2 3 [⟨S2048x1x1792x1, broadcastInDim S2048x1x1792x1 ![0, 1, 2] bcast_S2048x1x1792_S2048x1x1792x1_0_1_2 u⟩, ⟨S2048x1x1792x1, broadcastInDim S2048x1x1792x1 ![0, 1, 2] bcast_S2048x1x1792_S2048x1x1792x1_0_1_2 v⟩] concatenates_S2048x1x1792x1_S2048x1x1792x1_S2048x1x1792x2_d3) shapeCasts_S2048x1x1792x2_S2048x1x3584) bitsLt_bf16_f32 : FVec Ideal S2048x1x3584 .bf16) (ix3 b 0 j)
      = if j.val % 2 = 0 then u (ix3 b 0 ⟨j.val / 2, by omega⟩) else v (ix3 b 0 ⟨j.val / 2, by omega⟩) := by
  pointwise
  by_cases h : j.val % 2 = 0
  · rw [dif_pos (by omega), if_pos h]
  · rw [dif_neg (by omega), if_neg h]

/-- Every second group from the one at `f`. -/
theorem slice_apply (g : IVec S3584 32) (f : ℕ) (hs : S3584.SlicesBy ![f] ![2] S1792) (i : Fin 1792) (j : Fin 3584)
    (hj : j.val = f + 2 * i.val) : Host.slice S1792 ![f] ![2] g hs (ix1 i) = g (ix1 j) := by
  unfold Host.slice
  refine congrArg g ?_
  funext a
  obtain rfl : a = 0 := Subsingleton.elim _ _
  exact Fin.ext hj.symm

/-- The reference's result as a function of its arguments. -/
def whole (y : FVec Ideal S2048x1x18944 .bf16) (q : IVec S1792x18944 8) (s : FVec Ideal S28x18944 .bf16)
    (z : IVec S14x18944 8) (g : IVec S3584 32) : FVec Ideal S2048x1x3584 .bf16 :=
  truncf .bf16 (shapeCast S2048x1x3584 (concatenate S2048x1x1792x2 3
    [⟨S2048x1x1792x1, broadcastInDim S2048x1x1792x1 ![0, 1, 2] bcast_S2048x1x1792_S2048x1x1792x1_0_1_2
      (half y (andi (extui 32 q natLt_8_32) (broadcastInDim S1792x18944 ![] bcast_S_S1792x18944 (constantI S_ 32 15#32))) z s
        (Host.slice S1792 ![0] ![2] g slicesBy_S3584_S1792_0s2))⟩,
     ⟨S2048x1x1792x1, broadcastInDim S2048x1x1792x1 ![0, 1, 2] bcast_S2048x1x1792_S2048x1x1792x1_0_1_2
      (half y (Host.shrsi (extui 32 q natLt_8_32) (broadcastInDim S1792x18944 ![] bcast_S_S1792x18944 (constantI S_ 32 4#32))) z s
        (Host.slice S1792 ![1] ![2] g slicesBy_S3584_S1792_1s2))⟩]
    concatenates_S2048x1x1792x1_S2048x1x1792x1_S2048x1x1792x2_d3) shapeCasts_S2048x1x1792x2_S2048x1x3584) bitsLt_bf16_f32

/-- It is the sum of products, the groups naming rows of the tables. -/
theorem whole_apply (y : FVec Ideal S2048x1x18944 .bf16) (q : IVec S1792x18944 8) (s : FVec Ideal S28x18944 .bf16)
    (z : IVec S14x18944 8) (g : IVec S3584 32) (h : ∀ j : Fin 3584, (g (ix1 j)).toNat < 28) (b : Fin 2048) (j : Fin 3584) :
    whole y q s z g (ix3 b 0 j) = result y q z s g b j := by
  unfold whole
  rw [interleave_apply]
  unfold result term weight code
  by_cases hj : j.val % 2 = 0
  · have hg := slice_apply g 0 slicesBy_S3584_S1792_0s2 ⟨j.val / 2, by omega⟩ j (by show j.val = 0 + 2 * (j.val / 2); omega)
    rw [if_pos hj, half_apply _ _ _ _ _ _ _ (by rw [hg]; exact h j), hg]
    refine Finset.sum_congr rfl fun n _ => ?_
    rw [if_pos hj]
    have hq := low_half (q (ix2 ⟨j.val / 2, by omega⟩ n))
    have hc := sitofp_small .bf16 (IntOp.andi (BitVec.setWidth 32 (q (ix2 ⟨j.val / 2, by omega⟩ n))) 15#32) (by rw [hq]; omega)
    rw [hq] at hc
    rw [← hc]
    rfl
  · have hg := slice_apply g 1 slicesBy_S3584_S1792_1s2 ⟨j.val / 2, by omega⟩ j (by show j.val = 1 + 2 * (j.val / 2); omega)
    rw [if_neg hj, half_apply _ _ _ _ _ _ _ (by rw [hg]; exact h j), hg]
    refine Finset.sum_congr rfl fun n _ => ?_
    rw [if_neg hj]
    have hq := high_half .host (q (ix2 ⟨j.val / 2, by omega⟩ n))
    have hc := sitofp_small .bf16 (IntOp.shrsi .host (BitVec.setWidth 32 (q (ix2 ⟨j.val / 2, by omega⟩ n))) 4#32) (by
      rw [hq]
      have := (q (ix2 ⟨j.val / 2, by omega⟩ n)).isLt
      omega)
    rw [hq] at hc
    rw [← hc]
    rfl

/-- What the run leaves is that function of the arguments launched. -/
theorem res_eq (m : (ℓ : Loc nD τ sig) → Buf (Elt Ideal) ℓ) (c : Dev nD) :
    Value.res_main_v54 m c = whole (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  unfold Value.res_main_v54 whole half zeros wrapped
  rfl

end Cert.ReferenceIdeal.Own

end
-- ==== Proof.lean ====
/- The certificate: the frames of the kernel as it runs, of the kernel over the extended reals and of the reference, and the
   equality of the arrays the last two return. Each rests on the modules imported first. -/
module

public import proofs.«01_k».proof.Proof.Gen.ReferenceIdeal.Run
public import proofs.«01_k».proof.Proof.Kernel.Frame
public import proofs.«01_k».proof.Proof.KernelIdeal.Value
public import proofs.«01_k».proof.Proof.ReferenceIdeal.Frame
public import proofs.«01_k».proof.Proof.ReferenceIdeal.Value
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_groups_named
public import Idealize.ShloMosaic.Adequacy
public import Idealize.ShloMosaic.Init

@[expose] public section

noncomputable section

namespace Cert.Proof

open Idealize.ShloMosaic Idealize.SL.Sem Cert.Kernel

/-- The precondition says that the groups name rows of the tables. -/
theorem named (m : (ℓ : Loc Cert.KernelIdeal.nD Cert.KernelIdeal.τ Cert.KernelIdeal.sig) → Buf (Elt Ideal) ℓ)
    (h : Pre_KernelIdeal_groups_named m) (c : Dev Cert.KernelIdeal.nD) : Cert.KernelIdeal.Own.Named m c := by
  intro j
  have hc := congrFun (h c) (ValueIdx.ix1 j)
  exact Cert.Spec.named_of_checks _ hc

/-- The kernel and the reference return the same array. -/
theorem algebraic : algebraic_KernelIdeal_ReferenceIdeal_pre_groups_named := by
  intro m g m' g' hp hm
  have hn := named m hp
  refine ⟨fun c => Cert.KernelIdeal.Own.returned m c, Cert.KernelIdeal.Own.run m hn g, ?_⟩
  refine (θ_run Cert.ReferenceIdeal.defs _ _).mono (fun r h c => ⟨(h c).1.trans ?_, (h c).2⟩) (Cert.ReferenceIdeal.Value.run m' g')
  obtain ⟨e0, e1, e2, e3, e4⟩ := hm c
  rw [Cert.ReferenceIdeal.Own.res_eq, e0, e1, e2, e3, e4]
  funext i
  have hi : i = (ValueIdx.ix3 (⟨(i 0).val, (i 0).isLt⟩ : Fin 2048) (0 : Fin 1) (⟨(i 2).val, (i 2).isLt⟩ : Fin 3584) : Cert.ReferenceIdeal.S2048x1x3584.Idx) := by
    funext a
    match a with
    | ⟨0, _⟩ => rfl
    | ⟨1, _⟩ => exact Fin.ext (Nat.lt_one_iff.mp (i 1).isLt)
    | ⟨2, _⟩ => rfl
  rw [hi]
  have eR := Cert.ReferenceIdeal.Own.whole_apply (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (hn c)
    ⟨(i 0).val, (i 0).isLt⟩ ⟨(i 2).val, (i 2).isLt⟩
  have eK := (Cert.KernelIdeal.Own.returned_apply m c ⟨(i 0).val, (i 0).isLt⟩ ⟨(i 2).val, (i 2).isLt⟩).trans
    (Cert.KernelIdeal.Own.resultAt_eq m c _ _)
  exact eR.trans eK.symm

/-- Everything claimed. -/
theorem claim : Cert.Claim :=
  ⟨Cert.Kernel.Gen.facts, Cert.KernelIdeal.Gen.facts, Cert.ReferenceIdeal.Gen.facts, Cert.Pre_groups_named.Gen.facts,
    fun m g _ => Cert.Kernel.Own.frame m g,
    fun m g _ => Cert.KernelIdeal.Own.frame m g,
    fun m g _ => Cert.KernelIdeal.Own.frame m g,
    fun m g _ => Cert.ReferenceIdeal.Own.frame m g,
    fun m g _ => Cert.ReferenceIdeal.Own.frame m g,
    trivial,
    algebraic⟩

end Cert.Proof

end
